-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_SiluReferenceIdeal (m : (ℓ : Loc Cert.SiluReferenceIdeal.nD Cert.SiluReferenceIdeal.τ Cert.SiluReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_SiluReferenceIdeal [hSiluReferenceIdeal : Cert.SiluReferenceIdeal.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0)
      ∧ r.2.mem ((c.tc : Thread Cert.SiluReferenceIdeal.nD Cert.SiluReferenceIdeal.τ).loc Cert.SiluReferenceIdeal.main_arg1) = m ((c.tc : Thread Cert.SiluReferenceIdeal.nD Cert.SiluReferenceIdeal.τ).loc Cert.SiluReferenceIdeal.main_arg1)
      ∧ r.2.mem ((c.tc : Thread Cert.SiluReferenceIdeal.nD Cert.SiluReferenceIdeal.τ).loc Cert.SiluReferenceIdeal.main_arg2) = m ((c.tc : Thread Cert.SiluReferenceIdeal.nD Cert.SiluReferenceIdeal.τ).loc Cert.SiluReferenceIdeal.main_arg2))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_SiluReferenceIdeal [hKernelIdeal : Cert.KernelIdeal.Facts] [hSiluReferenceIdeal : Cert.SiluReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluReferenceIdeal.nD Cert.SiluReferenceIdeal.τ Cert.SiluReferenceIdeal.sig) → Buf (Elt Ideal) ℓ) (g' : Dev Cert.SiluReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.SiluReferenceIdeal.nD).tc : Thread Cert.SiluReferenceIdeal.nD Cert.SiluReferenceIdeal.τ).loc Cert.SiluReferenceIdeal.main_arg0))
      ∧ m ((c.tc : Thread Cert.KernelIdeal.nD Cert.KernelIdeal.τ).loc Cert.KernelIdeal.main_arg1) = Layout.block ⟨2, ![512, 2048]⟩ ⟨2, ![512, 32768]⟩ 1 16 c (m' (((0 : Dev Cert.SiluReferenceIdeal.nD).tc : Thread Cert.SiluReferenceIdeal.nD Cert.SiluReferenceIdeal.τ).loc Cert.SiluReferenceIdeal.main_arg1))
      ∧ m ((c.tc : Thread Cert.KernelIdeal.nD Cert.KernelIdeal.τ).loc Cert.KernelIdeal.main_arg2) = Layout.block ⟨2, ![2048, 512]⟩ ⟨2, ![32768, 512]⟩ 0 16 c (m' (((0 : Dev Cert.SiluReferenceIdeal.nD).tc : Thread Cert.SiluReferenceIdeal.nD Cert.SiluReferenceIdeal.τ).loc Cert.SiluReferenceIdeal.main_arg2))) →
    ∃ (v0 : Buf (Elt Ideal) (((0 : Dev Cert.SiluReferenceIdeal.nD).tc : Thread Cert.SiluReferenceIdeal.nD Cert.SiluReferenceIdeal.τ).loc Cert.SiluReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.SiluReferenceIdeal.defs (F := Ideal)) (onTc (τ := Cert.SiluReferenceIdeal.τ) (Cert.SiluReferenceIdeal.main (F := Ideal))) ⟨m', fun _ => 0, g'⟩ (fun r =>
          r.2.mem (((0 : Dev Cert.SiluReferenceIdeal.nD).tc : Thread Cert.SiluReferenceIdeal.nD Cert.SiluReferenceIdeal.τ).loc Cert.SiluReferenceIdeal.main_v6) = v0
          ∧ r.2.mem (((0 : Dev Cert.SiluReferenceIdeal.nD).tc : Thread Cert.SiluReferenceIdeal.nD Cert.SiluReferenceIdeal.τ).loc Cert.SiluReferenceIdeal.main_arg0) = m' (((0 : Dev Cert.SiluReferenceIdeal.nD).tc : Thread Cert.SiluReferenceIdeal.nD Cert.SiluReferenceIdeal.τ).loc Cert.SiluReferenceIdeal.main_arg0)
          ∧ r.2.mem (((0 : Dev Cert.SiluReferenceIdeal.nD).tc : Thread Cert.SiluReferenceIdeal.nD Cert.SiluReferenceIdeal.τ).loc Cert.SiluReferenceIdeal.main_arg1) = m' (((0 : Dev Cert.SiluReferenceIdeal.nD).tc : Thread Cert.SiluReferenceIdeal.nD Cert.SiluReferenceIdeal.τ).loc Cert.SiluReferenceIdeal.main_arg1)
          ∧ r.2.mem (((0 : Dev Cert.SiluReferenceIdeal.nD).tc : Thread Cert.SiluReferenceIdeal.nD Cert.SiluReferenceIdeal.τ).loc Cert.SiluReferenceIdeal.main_arg2) = m' (((0 : Dev Cert.SiluReferenceIdeal.nD).tc : Thread Cert.SiluReferenceIdeal.nD Cert.SiluReferenceIdeal.τ).loc Cert.SiluReferenceIdeal.main_arg2))

def Claim : Prop :=
  ∃ (hKernel : Cert.Kernel.Facts) (hKernelIdeal : Cert.KernelIdeal.Facts) (hReferenceIdeal : Cert.ReferenceIdeal.Facts) (hSiluReferenceIdeal : Cert.SiluReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_SiluReferenceIdeal (hSiluReferenceIdeal := hSiluReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_SiluReferenceIdeal (hKernelIdeal := hKernelIdeal) (hSiluReferenceIdeal := hSiluReferenceIdeal)
-- ==== Pre_bounded_KernelIdeal.lean ====
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S2048 : Shape := ⟨1, ![2048]⟩

class Facts : Prop where
  reducesTo_S512x512_S512_d1 : S512x512.ReducesTo [1] S512
  h_S_ : 0 < S_.numel
  bcast_S_S512 : S_.BroadcastsInDim S512 (![] : Fin 0 → Fin S512.rank)
  reducesTo_S512x2048_S2048_d0 : S512x2048.ReducesTo [0] S2048
  bcast_S_S2048 : S_.BroadcastsInDim S2048 (![] : Fin 0 → Fin S2048.rank)
  reducesTo_S512_S_d0 : S512.ReducesTo [0] S_
  reducesTo_S2048_S_d0 : S2048.ReducesTo [0] S_

variable [Facts]

def fn {F : FTy → Type} [FloatOps F] (main_arg0 : FVec F S512x512 .f32) (main_arg1 : FVec F S512x2048 .f32) (main_arg2 : FVec F S2048x512 .f32) : IVec S_ 1 :=
  let main_v0 : FVec F S512x512 .f32 := mulf main_arg0 main_arg0
  let main_cst : FVec F S_ .f32 := constant S_ .f32 0x00000000#32
  let main_v1 : FVec F S512 .f32 := (fun x v => Host.reduceAdd x v reducesTo_S512x512_S512_d1 h_S_) main_v0 main_cst
  let main_cst_0 : FVec F S_ .f32 := constant S_ .f32 0x44C80000#32
  let main_v2 : FVec F S512 .f32 := broadcastInDim S512 ![] bcast_S_S512 main_cst_0
  let main_v3 : IVec S512 1 := cmpf .ole main_v1 main_v2
  let main_v4 : FVec F S512x2048 .f32 := mulf main_arg1 main_arg1
  let main_cst_1 : FVec F S_ .f32 := constant S_ .f32 0x00000000#32
  let main_v5 : FVec F S2048 .f32 := (fun x v => Host.reduceAdd x v reducesTo_S512x2048_S2048_d0 h_S_) main_v4 main_cst_1
  let main_cst_2 : FVec F S_ .f32 := constant S_ .f32 0x40100000#32
  let main_v6 : FVec F S2048 .f32 := broadcastInDim S2048 ![] bcast_S_S2048 main_cst_2
  let main_v7 : IVec S2048 1 := cmpf .ole main_v5 main_v6
  let main_c : IVec S_ 1 := constantI S_ 1 1#1
  let main_v8 : IVec S_ 1 := (fun x v => Host.reduce IntOp.andi x v reducesTo_S512_S_d0 h_S_) main_v3 main_c
  let main_c_3 : IVec S_ 1 := constantI S_ 1 1#1
  let main_v9 : IVec S_ 1 := (fun x v => Host.reduce IntOp.andi x v reducesTo_S2048_S_d0 h_S_) main_v7 main_c_3
  let main_v10 : IVec S_ 1 := andi main_v8 main_v9
  main_v10
-- ==== Pre_bounded_ReferenceIdeal.lean ====
abbrev S8192x512 : Shape := ⟨2, ![8192, 512]⟩
abbrev S512x32768 : Shape := ⟨2, ![512, 32768]⟩
abbrev S32768x512 : Shape := ⟨2, ![32768, 512]⟩
abbrev S_ : Shape := ⟨0, ![]⟩
abbrev S8192 : Shape := ⟨1, ![8192]⟩
abbrev S32768 : Shape := ⟨1, ![32768]⟩

class Facts : Prop where
  reducesTo_S8192x512_S8192_d1 : S8192x512.ReducesTo [1] S8192
  h_S_ : 0 < S_.numel
  bcast_S_S8192 : S_.BroadcastsInDim S8192 (![] : Fin 0 → Fin S8192.rank)
  reducesTo_S512x32768_S32768_d0 : S512x32768.ReducesTo [0] S32768
  bcast_S_S32768 : S_.BroadcastsInDim S32768 (![] : Fin 0 → Fin S32768.rank)
  reducesTo_S8192_S_d0 : S8192.ReducesTo [0] S_
  reducesTo_S32768_S_d0 : S32768.ReducesTo [0] S_

variable [Facts]

def fn {F : FTy → Type} [FloatOps F] (main_arg0 : FVec F S8192x512 .f32) (main_arg1 : FVec F S512x32768 .f32) (main_arg2 : FVec F S32768x512 .f32) : IVec S_ 1 :=
  let main_v0 : FVec F S8192x512 .f32 := mulf main_arg0 main_arg0
  let main_cst : FVec F S_ .f32 := constant S_ .f32 0x00000000#32
  let main_v1 : FVec F S8192 .f32 := (fun x v => Host.reduceAdd x v reducesTo_S8192x512_S8192_d1 h_S_) main_v0 main_cst
  let main_cst_0 : FVec F S_ .f32 := constant S_ .f32 0x44C80000#32
  let main_v2 : FVec F S8192 .f32 := broadcastInDim S8192 ![] bcast_S_S8192 main_cst_0
  let main_v3 : IVec S8192 1 := cmpf .ole main_v1 main_v2
  let main_v4 : FVec F S512x32768 .f32 := mulf main_arg1 main_arg1
  let main_cst_1 : FVec F S_ .f32 := constant S_ .f32 0x00000000#32
  let main_v5 : FVec F S32768 .f32 := (fun x v => Host.reduceAdd x v reducesTo_S512x32768_S32768_d0 h_S_) main_v4 main_cst_1
  let main_cst_2 : FVec F S_ .f32 := constant S_ .f32 0x40100000#32
  let main_v6 : FVec F S32768 .f32 := broadcastInDim S32768 ![] bcast_S_S32768 main_cst_2
  let main_v7 : IVec S32768 1 := cmpf .ole main_v5 main_v6
  let main_c : IVec S_ 1 := constantI S_ 1 1#1
  let main_v8 : IVec S_ 1 := (fun x v => Host.reduce IntOp.andi x v reducesTo_S8192_S_d0 h_S_) main_v3 main_c
  let main_c_3 : IVec S_ 1 := constantI S_ 1 1#1
  let main_v9 : IVec S_ 1 := (fun x v => Host.reduce IntOp.andi x v reducesTo_S32768_S_d0 h_S_) main_v7 main_c_3
  let main_v10 : IVec S_ 1 := andi main_v8 main_v9
  main_v10
-- ==== Kernel.lean ====
abbrev S512x512 : Shape := ⟨2, ![512, 512]⟩
abbrev S512x2048 : Shape := ⟨2, ![512, 2048]⟩
abbrev S2048x512 : Shape := ⟨2, ![2048, 512]⟩
abbrev S4x16x128x512 : Shape := ⟨4, ![4, 16, 128, 512]⟩
abbrev S4x17x128x512 : Shape := ⟨4, ![4, 17, 128, 512]⟩
abbrev S4x15 : Shape := ⟨2, ![4, 15]⟩
abbrev S4x16 : Shape := ⟨2, ![4, 16]⟩
abbrev S_ : Shape := ⟨0, ![]⟩
abbrev S128x512 : Shape := ⟨2, ![128, 512]⟩
abbrev S1x1x128x512 : Shape := ⟨4, ![1, 1, 128, 512]⟩
abbrev S1x1 : Shape := ⟨2, ![1, 1]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S2048x512, .f32⟩
  | .hbm, ⟨3, _⟩ => ⟨S512x512, .f32⟩
  | .local _ .vmem, ⟨0, _⟩ => ⟨S512x512, .f32⟩
  | .local _ .vmem, ⟨1, _⟩ => ⟨S512x2048, .f32⟩
  | .local _ .vmem, ⟨2, _⟩ => ⟨S2048x512, .f32⟩
  | .local _ .vmem, ⟨3, _⟩ => ⟨S512x512, .f32⟩
  | .local _ .vmem, ⟨4, _⟩ => ⟨S4x16x128x512, .f32⟩
  | .local _ .vmem, ⟨5, _⟩ => ⟨S4x17x128x512, .f32⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 252 → Bool
  | ⟨i, _⟩ => dmaSemScopedAt i

abbrev sig : RefSig :=
  (ofTc nBuf bufTy 1 252 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v36 : BitVec 32 := Scalar.muli v13 c1_i32_33
  let v37 : BitVec 32 := Scalar.addi c0_i32_34 v36
  v37.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_51 : BitVec 32 := 1#32
  let v51 : BitVec 32 := Scalar.muli v25 c1_i32_51
  let v52 : BitVec 32 := Scalar.addi c0_i32_52 v51
  v52.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_69 : BitVec 32 := 1#32
  let v66 : BitVec 32 := Scalar.muli v13 c1_i32_69
  let v67 : BitVec 32 := Scalar.addi c0_i32_70 v66
  v67.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_86 : BitVec 32 := 1#32
  let v81 : BitVec 32 := Scalar.muli v25 c1_i32_86
  let v82 : BitVec 32 := Scalar.addi c0_i32_87 v81
  v82.toNat
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_169 : BitVec 32 := 1#32
  let v151 : BitVec 32 := Scalar.muli v13 c1_i32_169
  let v152 : BitVec 32 := Scalar.addi c0_i32_170 v151
  v152.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_197 : BitVec 32 := 1#32
  let v174 : BitVec 32 := Scalar.muli v13 c1_i32_197
  let v175 : BitVec 32 := Scalar.addi c0_i32_198 v174
  v175.toNat
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_225 : BitVec 32 := 1#32
  let v192 : BitVec 32 := Scalar.muli v25 c1_i32_225
  let v193 : BitVec 32 := Scalar.addi c0_i32_226 v192
  v193.toNat
def k0_dev10 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_253 : BitVec 32 := 1#32
  let v215 : BitVec 32 := Scalar.muli v25 c1_i32_253
  let v216 : BitVec 32 := Scalar.addi c0_i32_254 v215
  v216.toNat
def k0_dev11 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_281 : BitVec 32 := 1#32
  let v233 : BitVec 32 := Scalar.muli v13 c1_i32_281
  let v234 : BitVec 32 := Scalar.addi c0_i32_282 v233
  v234.toNat
def k0_dev12 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_309 : BitVec 32 := 1#32
  let v256 : BitVec 32 := Scalar.muli v13 c1_i32_309
  let v257 : BitVec 32 := Scalar.addi c0_i32_310 v256
  v257.toNat
def k0_dev13 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_337 : BitVec 32 := 1#32
  let v274 : BitVec 32 := Scalar.muli v25 c1_i32_337
  let v275 : BitVec 32 := Scalar.addi c0_i32_338 v274
  v275.toNat
def k0_dev14 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_365 : BitVec 32 := 1#32
  let v297 : BitVec 32 := Scalar.muli v25 c1_i32_365
  let v298 : BitVec 32 := Scalar.addi c0_i32_366 v297
  v298.toNat
def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_393 : BitVec 32 := 1#32
  let v315 : BitVec 32 := Scalar.muli v13 c1_i32_393
  let v316 : BitVec 32 := Scalar.addi c0_i32_394 v315
  v316.toNat
def k0_dev16 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v349 : BitVec 32 := Scalar.muli v13 c1_i32_439
  let v350 : BitVec 32 := Scalar.addi c0_i32_440 v349
  v350.toNat
def k0_dev17 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_467 : BitVec 32 := 1#32
  let v367 : BitVec 32 := Scalar.muli v25 c1_i32_467
  let v368 : BitVec 32 := Scalar.addi c0_i32_468 v367
  v368.toNat
def k0_dev18 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_513 : BitVec 32 := 1#32
  let v401 : BitVec 32 := Scalar.muli v25 c1_i32_513
  let v402 : BitVec 32 := Scalar.addi c0_i32_514 v401
  v402.toNat
def k0_dev19 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_541 : BitVec 32 := 1#32
  let v419 : BitVec 32 := Scalar.muli v13 c1_i32_541
  let v420 : BitVec 32 := Scalar.addi c0_i32_542 v419
  v420.toNat
def k0_dev20 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_587 : BitVec 32 := 1#32
  let v453 : BitVec 32 := Scalar.muli v13 c1_i32_587
  let v454 : BitVec 32 := Scalar.addi c0_i32_588 v453
  v454.toNat
def k0_dev21 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_615 : BitVec 32 := 1#32
  let v471 : BitVec 32 := Scalar.muli v25 c1_i32_615
  let v472 : BitVec 32 := Scalar.addi c0_i32_616 v471
  v472.toNat
def k0_dev22 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_661 : BitVec 32 := 1#32
  let v505 : BitVec 32 := Scalar.muli v25 c1_i32_661
  let v506 : BitVec 32 := Scalar.addi c0_i32_662 v505
  v506.toNat
def k0_dev23 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_688 : BitVec 32 := 1#32
  let v523 : BitVec 32 := Scalar.muli v13 c1_i32_688
  let v524 : BitVec 32 := Scalar.addi c0_i32_689 v523
  v524.toNat
def k0_dev24 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_734 : BitVec 32 := 1#32
  let v557 : BitVec 32 := Scalar.muli v13 c1_i32_734
  let v558 : BitVec 32 := Scalar.addi c0_i32_735 v557
  v558.toNat
def k0_dev25 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_762 : BitVec 32 := 1#32
  let v575 : BitVec 32 := Scalar.muli v25 c1_i32_762
  let v576 : BitVec 32 := Scalar.addi c0_i32_763 v575
  v576.toNat
def k0_dev26 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_808 : BitVec 32 := 1#32
  let v609 : BitVec 32 := Scalar.muli v25 c1_i32_808
  let v610 : BitVec 32 := Scalar.addi c0_i32_809 v609
  v610.toNat
def k0_dev27 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_836 : BitVec 32 := 1#32
  let v627 : BitVec 32 := Scalar.muli v13 c1_i32_836
  let v628 : BitVec 32 := Scalar.addi c0_i32_837 v627
  v628.toNat
def k0_dev28 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_882 : BitVec 32 := 1#32
  let v661 : BitVec 32 := Scalar.muli v13 c1_i32_882
  let v662 : BitVec 32 := Scalar.addi c0_i32_883 v661
  v662.toNat
def k0_dev29 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_910 : BitVec 32 := 1#32
  let v679 : BitVec 32 := Scalar.muli v25 c1_i32_910
  let v680 : BitVec 32 := Scalar.addi c0_i32_911 v679
  v680.toNat
def k0_dev30 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_956 : BitVec 32 := 1#32
  let v713 : BitVec 32 := Scalar.muli v25 c1_i32_956
  let v714 : BitVec 32 := Scalar.addi c0_i32_957 v713
  v714.toNat
def k0_dev31 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_983 : BitVec 32 := 1#32
  let v731 : BitVec 32 := Scalar.muli v13 c1_i32_983
  let v732 : BitVec 32 := Scalar.addi c0_i32_984 v731
  v732.toNat
def k0_dev32 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1028 : BitVec 32 := 1#32
  let v765 : BitVec 32 := Scalar.muli v13 c1_i32_1028
  let v766 : BitVec 32 := Scalar.addi c0_i32_1029 v765
  v766.toNat
def k0_dev33 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1056 : BitVec 32 := 1#32
  let v783 : BitVec 32 := Scalar.muli v25 c1_i32_1056
  let v784 : BitVec 32 := Scalar.addi c0_i32_1057 v783
  v784.toNat
def k0_dev34 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1102 : BitVec 32 := 1#32
  let v817 : BitVec 32 := Scalar.muli v25 c1_i32_1102
  let v818 : BitVec 32 := Scalar.addi c0_i32_1103 v817
  v818.toNat
def k0_dev35 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1130 : BitVec 32 := 1#32
  let v835 : BitVec 32 := Scalar.muli v13 c1_i32_1130
  let v836 : BitVec 32 := Scalar.addi c0_i32_1131 v835
  v836.toNat
def k0_dev36 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1176 : BitVec 32 := 1#32
  let v869 : BitVec 32 := Scalar.muli v13 c1_i32_1176
  let v870 : BitVec 32 := Scalar.addi c0_i32_1177 v869
  v870.toNat
def k0_dev37 (d0 : Dev nD) : Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1204 : BitVec 32 := 1#32
  let v887 : BitVec 32 := Scalar.muli v25 c1_i32_1204
  let v888 : BitVec 32 := Scalar.addi c0_i32_1205 v887
  v888.toNat
def k0_dev38 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1250 : BitVec 32 := 1#32
  let v921 : BitVec 32 := Scalar.muli v25 c1_i32_1250
  let v922 : BitVec 32 := Scalar.addi c0_i32_1251 v921
  v922.toNat
def k0_dev39 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1277 : BitVec 32 := 1#32
  let v939 : BitVec 32 := Scalar.muli v13 c1_i32_1277
  let v940 : BitVec 32 := Scalar.addi c0_i32_1278 v939
  v940.toNat
def k0_dev40 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1322 : BitVec 32 := 1#32
  let v973 : BitVec 32 := Scalar.muli v13 c1_i32_1322
  let v974 : BitVec 32 := Scalar.addi c0_i32_1323 v973
  v974.toNat
def k0_dev41 (d0 : Dev nD) : Nat :=
  let c0_i32_1351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1350 : BitVec 32 := 1#32
  let v991 : BitVec 32 := Scalar.muli v25 c1_i32_1350
  let v992 : BitVec 32 := Scalar.addi c0_i32_1351 v991
  v992.toNat
def k0_dev42 (d0 : Dev nD) : Nat :=
  let c0_i32_1397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1396 : BitVec 32 := 1#32
  let v1025 : BitVec 32 := Scalar.muli v25 c1_i32_1396
  let v1026 : BitVec 32 := Scalar.addi c0_i32_1397 v1025
  v1026.toNat
def k0_dev43 (d0 : Dev nD) : Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1424 : BitVec 32 := 1#32
  let v1043 : BitVec 32 := Scalar.muli v13 c1_i32_1424
  let v1044 : BitVec 32 := Scalar.addi c0_i32_1425 v1043
  v1044.toNat
def k0_dev44 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1470 : BitVec 32 := 1#32
  let v1077 : BitVec 32 := Scalar.muli v13 c1_i32_1470
  let v1078 : BitVec 32 := Scalar.addi c0_i32_1471 v1077
  v1078.toNat
def k0_dev45 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1498 : BitVec 32 := 1#32
  let v1095 : BitVec 32 := Scalar.muli v25 c1_i32_1498
  let v1096 : BitVec 32 := Scalar.addi c0_i32_1499 v1095
  v1096.toNat
def k0_dev46 (d0 : Dev nD) : Nat :=
  let c0_i32_1545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1544 : BitVec 32 := 1#32
  let v1129 : BitVec 32 := Scalar.muli v25 c1_i32_1544
  let v1130 : BitVec 32 := Scalar.addi c0_i32_1545 v1129
  v1130.toNat
def k0_dev47 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1571 : BitVec 32 := 1#32
  let v1147 : BitVec 32 := Scalar.muli v13 c1_i32_1571
  let v1148 : BitVec 32 := Scalar.addi c0_i32_1572 v1147
  v1148.toNat
def k0_dev48 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1616 : BitVec 32 := 1#32
  let v1181 : BitVec 32 := Scalar.muli v13 c1_i32_1616
  let v1182 : BitVec 32 := Scalar.addi c0_i32_1617 v1181
  v1182.toNat
def k0_dev49 (d0 : Dev nD) : Nat :=
  let c0_i32_1645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1644 : BitVec 32 := 1#32
  let v1199 : BitVec 32 := Scalar.muli v25 c1_i32_1644
  let v1200 : BitVec 32 := Scalar.addi c0_i32_1645 v1199
  v1200.toNat
def k0_dev50 (d0 : Dev nD) : Nat :=
  let c0_i32_1691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1690 : BitVec 32 := 1#32
  let v1233 : BitVec 32 := Scalar.muli v25 c1_i32_1690
  let v1234 : BitVec 32 := Scalar.addi c0_i32_1691 v1233
  v1234.toNat
def k0_dev51 (d0 : Dev nD) : Nat :=
  let c0_i32_1719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1718 : BitVec 32 := 1#32
  let v1251 : BitVec 32 := Scalar.muli v13 c1_i32_1718
  let v1252 : BitVec 32 := Scalar.addi c0_i32_1719 v1251
  v1252.toNat
def k0_dev52 (d0 : Dev nD) : Nat :=
  let c0_i32_1765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1764 : BitVec 32 := 1#32
  let v1285 : BitVec 32 := Scalar.muli v13 c1_i32_1764
  let v1286 : BitVec 32 := Scalar.addi c0_i32_1765 v1285
  v1286.toNat
def k0_dev53 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1792 : BitVec 32 := 1#32
  let v1303 : BitVec 32 := Scalar.muli v25 c1_i32_1792
  let v1304 : BitVec 32 := Scalar.addi c0_i32_1793 v1303
  v1304.toNat
def k0_dev54 (d0 : Dev nD) : Nat :=
  let c0_i32_1839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1838 : BitVec 32 := 1#32
  let v1337 : BitVec 32 := Scalar.muli v25 c1_i32_1838
  let v1338 : BitVec 32 := Scalar.addi c0_i32_1839 v1337
  v1338.toNat
def k0_dev55 (d0 : Dev nD) : Nat :=
  let c0_i32_1866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1865 : BitVec 32 := 1#32
  let v1355 : BitVec 32 := Scalar.muli v13 c1_i32_1865
  let v1356 : BitVec 32 := Scalar.addi c0_i32_1866 v1355
  v1356.toNat
def k0_dev56 (d0 : Dev nD) : Nat :=
  let c0_i32_1911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1910 : BitVec 32 := 1#32
  let v1389 : BitVec 32 := Scalar.muli v13 c1_i32_1910
  let v1390 : BitVec 32 := Scalar.addi c0_i32_1911 v1389
  v1390.toNat
def k0_dev57 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1938 : BitVec 32 := 1#32
  let v1407 : BitVec 32 := Scalar.muli v25 c1_i32_1938
  let v1408 : BitVec 32 := Scalar.addi c0_i32_1939 v1407
  v1408.toNat
def k0_dev58 (d0 : Dev nD) : Nat :=
  let c0_i32_1985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1984 : BitVec 32 := 1#32
  let v1441 : BitVec 32 := Scalar.muli v25 c1_i32_1984
  let v1442 : BitVec 32 := Scalar.addi c0_i32_1985 v1441
  v1442.toNat
def k0_dev59 (d0 : Dev nD) : Nat :=
  let c0_i32_2013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2012 : BitVec 32 := 1#32
  let v1459 : BitVec 32 := Scalar.muli v13 c1_i32_2012
  let v1460 : BitVec 32 := Scalar.addi c0_i32_2013 v1459
  v1460.toNat
def k0_dev60 (d0 : Dev nD) : Nat :=
  let c0_i32_2059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2058 : BitVec 32 := 1#32
  let v1493 : BitVec 32 := Scalar.muli v13 c1_i32_2058
  let v1494 : BitVec 32 := Scalar.addi c0_i32_2059 v1493
  v1494.toNat
def k0_dev61 (d0 : Dev nD) : Nat :=
  let c0_i32_2087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2086 : BitVec 32 := 1#32
  let v1511 : BitVec 32 := Scalar.muli v25 c1_i32_2086
  let v1512 : BitVec 32 := Scalar.addi c0_i32_2087 v1511
  v1512.toNat
def k0_dev62 (d0 : Dev nD) : Nat :=
  let c0_i32_2133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2132 : BitVec 32 := 1#32
  let v1545 : BitVec 32 := Scalar.muli v25 c1_i32_2132
  let v1546 : BitVec 32 := Scalar.addi c0_i32_2133 v1545
  v1546.toNat
def k0_dev63 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2159 : BitVec 32 := 1#32
  let v1563 : BitVec 32 := Scalar.muli v13 c1_i32_2159
  let v1564 : BitVec 32 := Scalar.addi c0_i32_2160 v1563
  v1564.toNat
def k0_dev64 (d0 : Dev nD) : Nat :=
  let c0_i32_2205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2204 : BitVec 32 := 1#32
  let v1597 : BitVec 32 := Scalar.muli v13 c1_i32_2204
  let v1598 : BitVec 32 := Scalar.addi c0_i32_2205 v1597
  v1598.toNat
def k0_dev65 (d0 : Dev nD) : Nat :=
  let c0_i32_2233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2232 : BitVec 32 := 1#32
  let v1615 : BitVec 32 := Scalar.muli v25 c1_i32_2232
  let v1616 : BitVec 32 := Scalar.addi c0_i32_2233 v1615
  v1616.toNat
def k0_dev66 (d0 : Dev nD) : Nat :=
  let c0_i32_2279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2278 : BitVec 32 := 1#32
  let v1649 : BitVec 32 := Scalar.muli v25 c1_i32_2278
  let v1650 : BitVec 32 := Scalar.addi c0_i32_2279 v1649
  v1650.toNat
def k0_dev67 (d0 : Dev nD) : Nat :=
  let c0_i32_2307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2306 : BitVec 32 := 1#32
  let v1667 : BitVec 32 := Scalar.muli v13 c1_i32_2306
  let v1668 : BitVec 32 := Scalar.addi c0_i32_2307 v1667
  v1668.toNat
def k0_dev68 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2352 : BitVec 32 := 1#32
  let v1701 : BitVec 32 := Scalar.muli v13 c1_i32_2352
  let v1702 : BitVec 32 := Scalar.addi c0_i32_2353 v1701
  v1702.toNat
def k0_dev69 (d0 : Dev nD) : Nat :=
  let c0_i32_2381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2380 : BitVec 32 := 1#32
  let v1719 : BitVec 32 := Scalar.muli v25 c1_i32_2380
  let v1720 : BitVec 32 := Scalar.addi c0_i32_2381 v1719
  v1720.toNat
def k0_dev70 (d0 : Dev nD) : Nat :=
  let c0_i32_2427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2426 : BitVec 32 := 1#32
  let v1753 : BitVec 32 := Scalar.muli v25 c1_i32_2426
  let v1754 : BitVec 32 := Scalar.addi c0_i32_2427 v1753
  v1754.toNat
def k0_dev71 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2453 : BitVec 32 := 1#32
  let v1771 : BitVec 32 := Scalar.muli v13 c1_i32_2453
  let v1772 : BitVec 32 := Scalar.addi c0_i32_2454 v1771
  v1772.toNat
def k0_dev72 (d0 : Dev nD) : Nat :=
  let c0_i32_2499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2498 : BitVec 32 := 1#32
  let v1805 : BitVec 32 := Scalar.muli v13 c1_i32_2498
  let v1806 : BitVec 32 := Scalar.addi c0_i32_2499 v1805
  v1806.toNat
def k0_dev73 (d0 : Dev nD) : Nat :=
  let c0_i32_2527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2526 : BitVec 32 := 1#32
  let v1823 : BitVec 32 := Scalar.muli v25 c1_i32_2526
  let v1824 : BitVec 32 := Scalar.addi c0_i32_2527 v1823
  v1824.toNat
def k0_dev74 (d0 : Dev nD) : Nat :=
  let c0_i32_2573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2572 : BitVec 32 := 1#32
  let v1857 : BitVec 32 := Scalar.muli v25 c1_i32_2572
  let v1858 : BitVec 32 := Scalar.addi c0_i32_2573 v1857
  v1858.toNat
def k0_dev75 (d0 : Dev nD) : Nat :=
  let c0_i32_2601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2600 : BitVec 32 := 1#32
  let v1875 : BitVec 32 := Scalar.muli v13 c1_i32_2600
  let v1876 : BitVec 32 := Scalar.addi c0_i32_2601 v1875
  v1876.toNat
def k0_dev76 (d0 : Dev nD) : Nat :=
  let c0_i32_2647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2646 : BitVec 32 := 1#32
  let v1909 : BitVec 32 := Scalar.muli v13 c1_i32_2646
  let v1910 : BitVec 32 := Scalar.addi c0_i32_2647 v1909
  v1910.toNat
def k0_dev77 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2674 : BitVec 32 := 1#32
  let v1927 : BitVec 32 := Scalar.muli v25 c1_i32_2674
  let v1928 : BitVec 32 := Scalar.addi c0_i32_2675 v1927
  v1928.toNat
def k0_dev78 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2720 : BitVec 32 := 1#32
  let v1961 : BitVec 32 := Scalar.muli v25 c1_i32_2720
  let v1962 : BitVec 32 := Scalar.addi c0_i32_2721 v1961
  v1962.toNat
def k0_dev79 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2747 : BitVec 32 := 1#32
  let v1979 : BitVec 32 := Scalar.muli v13 c1_i32_2747
  let v1980 : BitVec 32 := Scalar.addi c0_i32_2748 v1979
  v1980.toNat
def k0_dev80 (d0 : Dev nD) : Nat :=
  let c0_i32_2793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2792 : BitVec 32 := 1#32
  let v2013 : BitVec 32 := Scalar.muli v13 c1_i32_2792
  let v2014 : BitVec 32 := Scalar.addi c0_i32_2793 v2013
  v2014.toNat
def k0_dev81 (d0 : Dev nD) : Nat :=
  let c0_i32_2821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2820 : BitVec 32 := 1#32
  let v2031 : BitVec 32 := Scalar.muli v25 c1_i32_2820
  let v2032 : BitVec 32 := Scalar.addi c0_i32_2821 v2031
  v2032.toNat
def k0_dev82 (d0 : Dev nD) : Nat :=
  let c0_i32_2867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2866 : BitVec 32 := 1#32
  let v2065 : BitVec 32 := Scalar.muli v25 c1_i32_2866
  let v2066 : BitVec 32 := Scalar.addi c0_i32_2867 v2065
  v2066.toNat
def k0_dev83 (d0 : Dev nD) : Nat :=
  let c0_i32_2895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2894 : BitVec 32 := 1#32
  let v2083 : BitVec 32 := Scalar.muli v13 c1_i32_2894
  let v2084 : BitVec 32 := Scalar.addi c0_i32_2895 v2083
  v2084.toNat
def k0_dev84 (d0 : Dev nD) : Nat :=
  let c0_i32_2941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2940 : BitVec 32 := 1#32
  let v2117 : BitVec 32 := Scalar.muli v13 c1_i32_2940
  let v2118 : BitVec 32 := Scalar.addi c0_i32_2941 v2117
  v2118.toNat
def k0_dev85 (d0 : Dev nD) : Nat :=
  let c0_i32_2969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2968 : BitVec 32 := 1#32
  let v2135 : BitVec 32 := Scalar.muli v25 c1_i32_2968
  let v2136 : BitVec 32 := Scalar.addi c0_i32_2969 v2135
  v2136.toNat
def k0_dev86 (d0 : Dev nD) : Nat :=
  let c0_i32_3015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3014 : BitVec 32 := 1#32
  let v2169 : BitVec 32 := Scalar.muli v25 c1_i32_3014
  let v2170 : BitVec 32 := Scalar.addi c0_i32_3015 v2169
  v2170.toNat
def k0_dev87 (d0 : Dev nD) : Nat :=
  let c0_i32_3042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3041 : BitVec 32 := 1#32
  let v2187 : BitVec 32 := Scalar.muli v13 c1_i32_3041
  let v2188 : BitVec 32 := Scalar.addi c0_i32_3042 v2187
  v2188.toNat
def k0_dev88 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3086 : BitVec 32 := 1#32
  let v2221 : BitVec 32 := Scalar.muli v13 c1_i32_3086
  let v2222 : BitVec 32 := Scalar.addi c0_i32_3087 v2221
  v2222.toNat
def k0_dev89 (d0 : Dev nD) : Nat :=
  let c0_i32_3115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3114 : BitVec 32 := 1#32
  let v2239 : BitVec 32 := Scalar.muli v25 c1_i32_3114
  let v2240 : BitVec 32 := Scalar.addi c0_i32_3115 v2239
  v2240.toNat
def k0_dev90 (d0 : Dev nD) : Nat :=
  let c0_i32_3161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3160 : BitVec 32 := 1#32
  let v2273 : BitVec 32 := Scalar.muli v25 c1_i32_3160
  let v2274 : BitVec 32 := Scalar.addi c0_i32_3161 v2273
  v2274.toNat
def k0_dev91 (d0 : Dev nD) : Nat :=
  let c0_i32_3189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3188 : BitVec 32 := 1#32
  let v2291 : BitVec 32 := Scalar.muli v13 c1_i32_3188
  let v2292 : BitVec 32 := Scalar.addi c0_i32_3189 v2291
  v2292.toNat
def k0_dev92 (d0 : Dev nD) : Nat :=
  let c0_i32_3235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3234 : BitVec 32 := 1#32
  let v2325 : BitVec 32 := Scalar.muli v13 c1_i32_3234
  let v2326 : BitVec 32 := Scalar.addi c0_i32_3235 v2325
  v2326.toNat
def k0_dev93 (d0 : Dev nD) : Nat :=
  let c0_i32_3263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3262 : BitVec 32 := 1#32
  let v2343 : BitVec 32 := Scalar.muli v25 c1_i32_3262
  let v2344 : BitVec 32 := Scalar.addi c0_i32_3263 v2343
  v2344.toNat
def k0_dev94 (d0 : Dev nD) : Nat :=
  let c0_i32_3309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3308 : BitVec 32 := 1#32
  let v2377 : BitVec 32 := Scalar.muli v25 c1_i32_3308
  let v2378 : BitVec 32 := Scalar.addi c0_i32_3309 v2377
  v2378.toNat
def k0_dev95 (d0 : Dev nD) : Nat :=
  let c0_i32_3336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3335 : BitVec 32 := 1#32
  let v2395 : BitVec 32 := Scalar.muli v13 c1_i32_3335
  let v2396 : BitVec 32 := Scalar.addi c0_i32_3336 v2395
  v2396.toNat
def k0_dev96 (d0 : Dev nD) : Nat :=
  let c0_i32_3381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3380 : BitVec 32 := 1#32
  let v2429 : BitVec 32 := Scalar.muli v13 c1_i32_3380
  let v2430 : BitVec 32 := Scalar.addi c0_i32_3381 v2429
  v2430.toNat
def k0_dev97 (d0 : Dev nD) : Nat :=
  let c0_i32_3409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3408 : BitVec 32 := 1#32
  let v2447 : BitVec 32 := Scalar.muli v25 c1_i32_3408
  let v2448 : BitVec 32 := Scalar.addi c0_i32_3409 v2447
  v2448.toNat
def k0_dev98 (d0 : Dev nD) : Nat :=
  let c0_i32_3455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3454 : BitVec 32 := 1#32
  let v2481 : BitVec 32 := Scalar.muli v25 c1_i32_3454
  let v2482 : BitVec 32 := Scalar.addi c0_i32_3455 v2481
  v2482.toNat
def k0_dev99 (d0 : Dev nD) : Nat :=
  let c0_i32_3483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3482 : BitVec 32 := 1#32
  let v2499 : BitVec 32 := Scalar.muli v13 c1_i32_3482
  let v2500 : BitVec 32 := Scalar.addi c0_i32_3483 v2499
  v2500.toNat
def k0_dev100 (d0 : Dev nD) : Nat :=
  let c0_i32_3529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3528 : BitVec 32 := 1#32
  let v2533 : BitVec 32 := Scalar.muli v13 c1_i32_3528
  let v2534 : BitVec 32 := Scalar.addi c0_i32_3529 v2533
  v2534.toNat
def k0_dev101 (d0 : Dev nD) : Nat :=
  let c0_i32_3557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3556 : BitVec 32 := 1#32
  let v2551 : BitVec 32 := Scalar.muli v25 c1_i32_3556
  let v2552 : BitVec 32 := Scalar.addi c0_i32_3557 v2551
  v2552.toNat
def k0_dev102 (d0 : Dev nD) : Nat :=
  let c0_i32_3603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3602 : BitVec 32 := 1#32
  let v2585 : BitVec 32 := Scalar.muli v25 c1_i32_3602
  let v2586 : BitVec 32 := Scalar.addi c0_i32_3603 v2585
  v2586.toNat
def k0_dev103 (d0 : Dev nD) : Nat :=
  let c0_i32_3630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3629 : BitVec 32 := 1#32
  let v2603 : BitVec 32 := Scalar.muli v13 c1_i32_3629
  let v2604 : BitVec 32 := Scalar.addi c0_i32_3630 v2603
  v2604.toNat
def k0_dev104 (d0 : Dev nD) : Nat :=
  let c0_i32_3675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3674 : BitVec 32 := 1#32
  let v2637 : BitVec 32 := Scalar.muli v13 c1_i32_3674
  let v2638 : BitVec 32 := Scalar.addi c0_i32_3675 v2637
  v2638.toNat
def k0_dev105 (d0 : Dev nD) : Nat :=
  let c0_i32_3703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3702 : BitVec 32 := 1#32
  let v2655 : BitVec 32 := Scalar.muli v25 c1_i32_3702
  let v2656 : BitVec 32 := Scalar.addi c0_i32_3703 v2655
  v2656.toNat
def k0_dev106 (d0 : Dev nD) : Nat :=
  let c0_i32_3749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3748 : BitVec 32 := 1#32
  let v2689 : BitVec 32 := Scalar.muli v25 c1_i32_3748
  let v2690 : BitVec 32 := Scalar.addi c0_i32_3749 v2689
  v2690.toNat
def k0_dev107 (d0 : Dev nD) : Nat :=
  let c0_i32_3777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3776 : BitVec 32 := 1#32
  let v2707 : BitVec 32 := Scalar.muli v13 c1_i32_3776
  let v2708 : BitVec 32 := Scalar.addi c0_i32_3777 v2707
  v2708.toNat
def k0_dev108 (d0 : Dev nD) : Nat :=
  let c0_i32_3823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3822 : BitVec 32 := 1#32
  let v2741 : BitVec 32 := Scalar.muli v13 c1_i32_3822
  let v2742 : BitVec 32 := Scalar.addi c0_i32_3823 v2741
  v2742.toNat
def k0_dev109 (d0 : Dev nD) : Nat :=
  let c0_i32_3851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3850 : BitVec 32 := 1#32
  let v2759 : BitVec 32 := Scalar.muli v25 c1_i32_3850
  let v2760 : BitVec 32 := Scalar.addi c0_i32_3851 v2759
  v2760.toNat
def k0_dev110 (d0 : Dev nD) : Nat :=
  let c0_i32_3897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3896 : BitVec 32 := 1#32
  let v2793 : BitVec 32 := Scalar.muli v25 c1_i32_3896
  let v2794 : BitVec 32 := Scalar.addi c0_i32_3897 v2793
  v2794.toNat
def k0_dev111 (d0 : Dev nD) : Nat :=
  let c0_i32_3924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3923 : BitVec 32 := 1#32
  let v2811 : BitVec 32 := Scalar.muli v13 c1_i32_3923
  let v2812 : BitVec 32 := Scalar.addi c0_i32_3924 v2811
  v2812.toNat
def k0_dev112 (d0 : Dev nD) : Nat :=
  let c0_i32_3969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3968 : BitVec 32 := 1#32
  let v2845 : BitVec 32 := Scalar.muli v13 c1_i32_3968
  let v2846 : BitVec 32 := Scalar.addi c0_i32_3969 v2845
  v2846.toNat
def k0_dev113 (d0 : Dev nD) : Nat :=
  let c0_i32_3997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3996 : BitVec 32 := 1#32
  let v2863 : BitVec 32 := Scalar.muli v25 c1_i32_3996
  let v2864 : BitVec 32 := Scalar.addi c0_i32_3997 v2863
  v2864.toNat
def k0_dev114 (d0 : Dev nD) : Nat :=
  let c0_i32_4043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4042 : BitVec 32 := 1#32
  let v2897 : BitVec 32 := Scalar.muli v25 c1_i32_4042
  let v2898 : BitVec 32 := Scalar.addi c0_i32_4043 v2897
  v2898.toNat
def k0_dev115 (d0 : Dev nD) : Nat :=
  let c0_i32_4071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4070 : BitVec 32 := 1#32
  let v2915 : BitVec 32 := Scalar.muli v13 c1_i32_4070
  let v2916 : BitVec 32 := Scalar.addi c0_i32_4071 v2915
  v2916.toNat
def k0_dev116 (d0 : Dev nD) : Nat :=
  let c0_i32_4117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4116 : BitVec 32 := 1#32
  let v2949 : BitVec 32 := Scalar.muli v13 c1_i32_4116
  let v2950 : BitVec 32 := Scalar.addi c0_i32_4117 v2949
  v2950.toNat
def k0_dev117 (d0 : Dev nD) : Nat :=
  let c0_i32_4145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4144 : BitVec 32 := 1#32
  let v2967 : BitVec 32 := Scalar.muli v25 c1_i32_4144
  let v2968 : BitVec 32 := Scalar.addi c0_i32_4145 v2967
  v2968.toNat
def k0_dev118 (d0 : Dev nD) : Nat :=
  let c0_i32_4191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4190 : BitVec 32 := 1#32
  let v3001 : BitVec 32 := Scalar.muli v25 c1_i32_4190
  let v3002 : BitVec 32 := Scalar.addi c0_i32_4191 v3001
  v3002.toNat
def k0_dev119 (d0 : Dev nD) : Nat :=
  let c0_i32_4250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4249 : BitVec 32 := 1#32
  let v3043 : BitVec 32 := Scalar.muli v13 c1_i32_4249
  let v3044 : BitVec 32 := Scalar.addi c0_i32_4250 v3043
  v3044.toNat
def k0_dev120 (d0 : Dev nD) : Nat :=
  let c0_i32_4310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4309 : BitVec 32 := 1#32
  let v3085 : BitVec 32 := Scalar.muli v25 c1_i32_4309
  let v3086 : BitVec 32 := Scalar.addi c0_i32_4310 v3085
  v3086.toNat
def k0_dev121 (d0 : Dev nD) : Nat :=
  let c0_i32_4370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4369 : BitVec 32 := 1#32
  let v3127 : BitVec 32 := Scalar.muli v13 c1_i32_4369
  let v3128 : BitVec 32 := Scalar.addi c0_i32_4370 v3127
  v3128.toNat
def k0_dev122 (d0 : Dev nD) : Nat :=
  let c0_i32_4430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4429 : BitVec 32 := 1#32
  let v3169 : BitVec 32 := Scalar.muli v25 c1_i32_4429
  let v3170 : BitVec 32 := Scalar.addi c0_i32_4430 v3169
  v3170.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x512 : Shape := ⟨2, ![8192, 512]⟩
abbrev S512x32768 : Shape := ⟨2, ![512, 32768]⟩
abbrev S32768x512 : Shape := ⟨2, ![32768, 512]⟩
abbrev S8192x32768 : Shape := ⟨2, ![8192, 32768]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32768, .f32⟩
  | .hbm, ⟨2, _⟩ => ⟨S32768x512, .f32⟩
  | .hbm, ⟨3, _⟩ => ⟨S8192x32768, .f32⟩
  | .hbm, ⟨4, _⟩ => ⟨S_, .i32⟩
  | .hbm, ⟨5, _⟩ => ⟨S_, .i32⟩
  | .hbm, ⟨6, _⟩ => ⟨S_, .f32⟩
  | .hbm, ⟨7, _⟩ => ⟨S8192x32768, .f32⟩
  | .hbm, ⟨8, _⟩ => ⟨S8192x32768, .f32⟩
  | .hbm, ⟨9, _⟩ => ⟨S_, .f32⟩
  | .hbm, ⟨10, _⟩ => ⟨S8192x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S_, .f32⟩
  | .hbm, ⟨15, _⟩ => ⟨S8192x32768, .f32⟩
  | .hbm, ⟨16, _⟩ => ⟨S8192x32768, .f32⟩
  | .hbm, ⟨17, _⟩ => ⟨S8192x32768, .f32⟩
  | .hbm, ⟨18, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== SiluReferenceIdeal.lean ====
abbrev S8192x512 : Shape := ⟨2, ![8192, 512]⟩
abbrev S512x32768 : Shape := ⟨2, ![512, 32768]⟩
abbrev S32768x512 : Shape := ⟨2, ![32768, 512]⟩
abbrev S8192x32768 : Shape := ⟨2, ![8192, 32768]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32768, .f32⟩
  | .hbm, ⟨2, _⟩ => ⟨S32768x512, .f32⟩
  | .hbm, ⟨3, _⟩ => ⟨S8192x32768, .f32⟩
  | .hbm, ⟨4, _⟩ => ⟨S8192x32768, .f32⟩
  | .hbm, ⟨5, _⟩ => ⟨S8192x32768, .f32⟩
  | .hbm, ⟨6, _⟩ => ⟨S_, .f32⟩
  | .hbm, ⟨7, _⟩ => ⟨S8192x32768, .f32⟩
  | .hbm, ⟨8, _⟩ => ⟨S8192x32768, .f32⟩
  | .hbm, ⟨9, _⟩ => ⟨S8192x32768, .f32⟩
  | .hbm, ⟨10, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
Rules stated once for any kernel: a load and a store through one rectangle of a buffer, seen as the squeezed slice's
contents; a transfer between two owned memrefs; a wait that takes a cell's only round and closes the cell; and a
separating conjunction over a range cut into equal pieces.
-/
module

public import Idealize.ShloMosaic.Lib.Rounds
public import Idealize.ShloMosaic.Lib.Memref
public import Idealize.ShloMosaic.Lib.MemrefSat
public import Idealize.ShloMosaic.Lib.ViewIndex
public import Idealize.ShloMosaic.Lib.Pipeline.Value
public import Idealize.ShloMosaic.Lib.Pipeline.Launch
public import Idealize.ShloMosaic.Lib.Pipeline.Kit
public import Idealize.ShloMosaic.Lib.Ring
public import Idealize.SL.BI.BigOpNat
public import Idealize.ShloMosaic.Lib.Tactic

@[expose] public section

noncomputable section

namespace Cert.Common

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}
variable {U : Type} [URA U]

local notation "𝕄" => MT nD τ sig Unit Val ℕ U ℕ

section Slots

variable {defs : Defs nD τ sig Val Λ} (𝒱 : Variants) (c : Thread nD τ) {α : Type} {Q : α → sProp (MT nD τ sig Unit Val ℕ U ℕ)}
variable {cs : CoreSpace} {s s' : Shape} {e : EltTy} (M : Memref sig c.2.kind cs s e) (r : Rect s) (hr : ∀ a, r.stride a = 1)
  (hq : r.shape.Squeezes s') (hc : r.shape.ShapeCasts s')

theorem set_sq : ((M.slice r hr).squeeze s' hq).view.set = (M.access r).set := View.set_reshape _ _

/-- A load through the rectangle, owning its squeezed slice: what is read is the slice's contents in the rectangle's shape. -/
theorem wp_load_sq {hl : M.view.LoadsAt r.toLoadRect} {k : (r.shape.Idx → Val e) → Prog (TpuEff nD τ sig Val Λ c.2) α}
    (q : PosShare TreeShare) (v : s'.Idx → Val e) :
    (owns c ((M.slice r hr).squeeze s' hq) q v : sProp 𝕄)
      ⊢ iprop((∀ u, ⌜shapeCast s' u hc = v⌝ -∗ owns c ((M.slice r hr).squeeze s' hq) q v
          -∗ wp frame (wpE defs 𝒱 c none) Set.univ (k u) Q)
        -∗ wp frame (wpE defs 𝒱 c none) Set.univ (.op (.load M r.toLoadRect hl) k) Q) := by
  unfold owns
  rw [set_sq]
  iintro ⟨%f, %hf, H⟩ Hk
  ihave H := (show (((M.slice r hr).squeeze s' hq).view.loc c ↦[(M.access r).set]{q} f : sProp 𝕄)
      ⊢ ((M.access r).loc c ↦[(M.access r).set]{q} f) from .rfl) $$ H
  iapply (wp_load_rect 𝒱 c none Set.univ (m := M) (r := r) (Finset.Subset.refl _)) $$ H
  iintro H
  ispecialize Hk $$ %((M.access r).read Val f)
  iapply Hk $$ []
  · ipureintro; rw [← hf]; rfl
  iexists f
  isplitr; · ipureintro; exact hf
  iexact H

/-- A store through the rectangle, owning its squeezed slice. -/
theorem wp_store_sq {w : r.shape.Idx → Val e} {hx : (M.access r).Stores Finset.univ}
    {hm : (Finset.univ : Finset r.shape.Idx) = Finset.univ ∨ ∀ a, r.stride a = 1}
    {k : PUnit → Prog (TpuEff nD τ sig Val Λ c.2) α} (v : s'.Idx → Val e) :
    (owns c ((M.slice r hr).squeeze s' hq) fullShare v : sProp 𝕄)
      ⊢ iprop((owns c ((M.slice r hr).squeeze s' hq) fullShare (shapeCast s' w hc)
          -∗ wp frame (wpE defs 𝒱 c none) Set.univ (k ⟨⟩) Q)
        -∗ wp frame (wpE defs 𝒱 c none) Set.univ (.op (.store M r w Finset.univ hx hm) k) Q) := by
  unfold owns
  rw [set_sq]
  iintro ⟨%f, %hf, H⟩ Hk
  ihave H := (show (((M.slice r hr).squeeze s' hq).view.loc c ↦[(M.access r).set]{fullShare} f : sProp 𝕄)
      ⊢ ((M.access r).loc c ↦[(M.access r).setOn Finset.univ]{fullShare} f) from .rfl) $$ H
  iapply (wp_store 𝒱 c none Set.univ (m := M) (r := r) (Mk := Finset.univ) (f := f) (Finset.Subset.refl _)) $$ H
  iintro H
  iapply Hk
  iexists ((M.access r).write Val f w Finset.univ)
  isplitr
  · ipureintro
    refine (Memref.read_squeeze_slice M r hr hq hc _).trans ?_
    exact congrArg (fun u => shapeCast s' u hc) (View.read_write_univ (v := M.access r) f w)
  iexact H

/-- A load through a rectangle, owning its slice. -/
theorem wp_load_slice {hl : M.view.LoadsAt r.toLoadRect} {k : (r.shape.Idx → Val e) → Prog (TpuEff nD τ sig Val Λ c.2) α}
    (q : PosShare TreeShare) (v : r.shape.Idx → Val e) :
    (owns c (M.slice r hr) q v : sProp 𝕄)
      ⊢ iprop((owns c (M.slice r hr) q v -∗ wp frame (wpE defs 𝒱 c none) Set.univ (k v) Q)
        -∗ wp frame (wpE defs 𝒱 c none) Set.univ (.op (.load M r.toLoadRect hl) k) Q) := by
  unfold owns
  iintro ⟨%f, %hf, H⟩ Hk
  subst hf
  ihave H := (show ((M.slice r hr).view.loc c ↦[(M.slice r hr).view.set]{q} f : sProp 𝕄)
      ⊢ ((M.access r).loc c ↦[(M.access r).set]{q} f) from .rfl) $$ H
  iapply (wp_load_rect 𝒱 c none Set.univ (m := M) (r := r) (Finset.Subset.refl _)) $$ H
  iintro H
  iapply Hk
  iexists f
  isplitr; · ipureintro; rfl
  iexact H

/-- A store through a rectangle, owning its slice. -/
theorem wp_store_slice {w : r.shape.Idx → Val e} {hx : (M.access r).Stores Finset.univ}
    {hm : (Finset.univ : Finset r.shape.Idx) = Finset.univ ∨ ∀ a, r.stride a = 1}
    {k : PUnit → Prog (TpuEff nD τ sig Val Λ c.2) α} (v : r.shape.Idx → Val e) :
    (owns c (M.slice r hr) fullShare v : sProp 𝕄)
      ⊢ iprop((owns c (M.slice r hr) fullShare w -∗ wp frame (wpE defs 𝒱 c none) Set.univ (k ⟨⟩) Q)
        -∗ wp frame (wpE defs 𝒱 c none) Set.univ (.op (.store M r w Finset.univ hx hm) k) Q) := by
  unfold owns
  iintro ⟨%f, %hf, H⟩ Hk
  ihave H := (show ((M.slice r hr).view.loc c ↦[(M.slice r hr).view.set]{fullShare} f : sProp 𝕄)
      ⊢ ((M.access r).loc c ↦[(M.access r).setOn Finset.univ]{fullShare} f) from .rfl) $$ H
  iapply (wp_store 𝒱 c none Set.univ (m := M) (r := r) (Mk := Finset.univ) (f := f) (Finset.Subset.refl _)) $$ H
  iintro H
  iapply Hk
  iexists ((M.access r).write Val f w Finset.univ)
  isplitr; · ipureintro; exact View.read_write_univ (v := M.access r) f w
  iexact H

/-- The squeezed slice's contents are the slice's, reshaped. -/
theorem sq_of_slice (q : PosShare TreeShare) (X : r.shape.Idx → Val e) :
    (owns c (M.slice r hr) q X : sProp 𝕄) ⊢ owns c ((M.slice r hr).squeeze s' hq) q (shapeCast s' X hc) := by
  unfold owns
  rw [set_sq]
  iintro ⟨%f, %hf, H⟩
  iexists f
  isplitr
  · ipureintro; rw [← hf]; rfl
  iexact H

theorem slice_of_sq (q : PosShare TreeShare) (v : s'.Idx → Val e) :
    (owns c ((M.slice r hr).squeeze s' hq) q v : sProp 𝕄) ⊢ iprop(∃ X, owns c (M.slice r hr) q X) := by
  unfold owns
  rw [set_sq]
  iintro ⟨%f, %hf, H⟩
  iexists ((M.slice r hr).view.read Val f)
  iexists f
  isplitr
  · ipureintro; rfl
  iexact H

end Slots

section Tiles

variable (c : Thread nD τ) {cs : CoreSpace} {s s' : Shape} {e : EltTy} (M : Memref sig c.2.kind cs s e) {T : Type} [Fintype T] [DecidableEq T]
  (r : T → Rect s) (hr : ∀ t a, (r t).stride a = 1) (hq : ∀ t, (r t).shape.Squeezes s') (hc : ∀ t, (r t).shape.ShapeCasts s')
  (hd : ∀ t t', t ≠ t' → Disjoint (r t).set (r t').set) (hcov : ∀ i, ∃ t, i ∈ (r t).set)

include hcov in
theorem cover_of_mem : (Finset.univ : Finset T).biUnion (fun t => (r t).set) = Finset.univ :=
  Finset.eq_univ_iff_forall.mpr fun i => by
    obtain ⟨t, ht⟩ := hcov i
    exact Finset.mem_biUnion.mpr ⟨t, Finset.mem_univ _, ht⟩

include hc hd hcov
/-- A memref at any contents is its tiles, squeezed, each at any contents. -/
theorem any_tiles : (iprop(∃ X, owns c M fullShare X) : sProp 𝕄)
    ⊢ bigSep Finset.univ fun t => iprop(∃ v, owns c ((M.slice (r t) (hr t)).squeeze s' (hq t)) fullShare v) := by
  iintro ⟨%X, H⟩
  iapply (show (owns c M fullShare X : sProp 𝕄) ⊢ bigSep Finset.univ fun t => iprop(∃ v, owns c ((M.slice (r t) (hr t)).squeeze s' (hq t)) fullShare v) from
    (owns_rects c M fullShare r hr hd (cover_of_mem r hcov) X).trans (bigSep_mono fun t _ =>
      (sq_of_slice c M (r t) (hr t) (hq t) (hc t) fullShare _).trans (by iintro H; iexists _; iexact H)))
  iexact H

omit hc in
theorem any_of_tiles [∀ e, Nonempty (Val e)] :
    bigSep Finset.univ (fun t => iprop(∃ v, owns c ((M.slice (r t) (hr t)).squeeze s' (hq t)) fullShare v)) ⊢ (iprop(∃ X, owns c M fullShare X) : sProp 𝕄) := by
  refine (bigSep_mono fun t _ => show _ ⊢ ownsSat c (M.slice (r t) (hr t)) fullShare (fun _ => True) from ?_).trans
    ((ownsSat_of_rects c M fullShare r hr hd (cover_of_mem r hcov) (fun _ _ => True)).trans (ownsSat_any c M fullShare))
  iintro ⟨%v, H⟩
  ihave H := (slice_of_sq c M (r t) (hr t) (hq t) fullShare v) $$ H
  iapply (ownsSat_true c (M.slice (r t) (hr t)) fullShare).2
  iexact H

end Tiles

section Whole

variable (c : Thread nD τ) (b : Ref sig c.2.kind)

/-- A whole buffer is owned at the contents it has. -/
theorem owns_whole_ex (q : PosShare TreeShare) (X : b.ty.Contents Val) :
    (owns c (Memref.whole b) q X : sProp 𝕄) = iprop(∃ f : Buf Val (c.loc b), ⌜f = X⌝ ∗ (c.loc b) ↦{q} f) := by
  unfold owns; simp only [Memref.view_whole, View.read_whole, View.set_whole]
theorem any_of_whole : (iprop(∃ f : Buf Val (c.loc b), (c.loc b) ↦{fullShare} f) : sProp 𝕄) ⊢ iprop(∃ X, owns c (Memref.whole b) fullShare X) := by
  iintro ⟨%f, H⟩
  iexists f
  rw [owns_whole_ex]
  iexists f
  isplitr; · ipureintro; rfl
  iexact H
theorem whole_of_any : (iprop(∃ X, owns c (Memref.whole b) fullShare X) : sProp 𝕄) ⊢ iprop(∃ f : Buf Val (c.loc b), (c.loc b) ↦{fullShare} f) := by
  simp only [owns_whole_ex]
  iintro ⟨%X, %f, %h, H⟩
  iexists f
  iexact H

end Whole

section Cells

variable {D : Type} [DecidableEq D]
variable {defs : Defs nD τ sig Val Λ} (𝒱 : Variants) (E : Emb (URounds (GSem nD τ sig) D) (MT nD τ sig Unit Val ℕ U ℕ))
  (Rd : Rounds.Schedule (GSem nD τ sig) D (MT nD τ sig Unit Val ℕ U ℕ)) (c : Thread nD τ) {α : Type} {Q : α → sProp (MT nD τ sig Unit Val ℕ U ℕ)}

/-- A cell's invariant under some name, and that its first round is open. -/
def cellOk (g : GSem nD τ sig) : sProp 𝕄 := iprop((∃ κ, cellInv E Rd κ g) ∗ reached E g 0)

instance cellOk_persistent (g : GSem nD τ sig) : BI.Persistent (cellOk E Rd g) := by unfold cellOk; infer_instance

/-- A transfer from an owned memref to one owned on another core: the first is the payload of the sending cell, the
    second, at the first's contents, that of the receiving cell. -/
theorem wp_send_owns {c' : Thread nD τ} {sp sp' : Space} {s : Shape} {e : EltTy} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {v w : s.Idx → Val e} {d₁ d₂ : D}
    (hd₁ : d₁ ∈ Rd.duties (c, sS) 0) (hd₂ : d₂ ∈ Rd.duties (c', sem) 0)
    (N : ℕ) (hN : dst.view.amount sem = N) (hk₁ : Rd.amount (c, sS) 0 d₁ = N) (hk₂ : Rd.amount (c', sem) 0 d₂ = N)
    {O₀ : CellTallies nD τ sig Unit} (O : CellTallies nD τ sig Unit) (hO : O₀ = O + tallyAt (c', sem) () N) {W : Waits sig Unit}
    (hpay₁ : (owns c src q v : sProp 𝕄) ⊢ Rd.payload (c, sS) 0 d₁)
    (hpay₂ : (owns c' dst fullShare v : sProp 𝕄) ⊢ Rd.payload (c', sem) 0 d₂) (hr : τ.routes c c' = true := by routes) :
    iprop(cellOk E Rd (c, sS) ∗ cellOk E Rd (c', sem) ∗ owns c src q v ∗ owns c' dst fullShare w ∗ owes c O₀ W
        ∗ dutyTok E (c, sS) 0 d₁ ∗ dutyTok E (c', sem) 0 d₂)
      ⊢ iprop(((cred (tallyAt (c, sS) () N) ∗ owes c O W) -∗ wp frame (wpE defs 𝒱 c none) Set.univ (k ⟨⟩) Q)
          -∗ wp frame (wpE defs 𝒱 c none) Set.univ (.op (.enqueueDma src (.remote c' dst sS hsc) sem hsrc hdst hsem) k) Q) := by
  have e1 (m : Memref sig c.2.kind sp s e) (q : PosShare TreeShare) (X : s.Idx → Val e) :
      (owns c m q X : sProp 𝕄) = iprop(∃ f, ⌜m.view.read Val f = X⌝ ∗ (m.view.loc c ↦[m.view.set]{q} f)) := rfl
  have e2 (m : Memref sig c'.2.kind sp' s e) (q : PosShare TreeShare) (X : s.Idx → Val e) :
      (owns c' m q X : sProp 𝕄) = iprop(∃ f, ⌜m.view.read Val f = X⌝ ∗ (m.view.loc c' ↦[m.view.set]{q} f)) := rfl
  unfold cellOk
  iintro ⟨⟨⟨%κ₁, #Hi1⟩, #Hr1⟩, ⟨⟨%κ₂, #Hi2⟩, #Hr2⟩, Hs, Hd, HO, Ht1, Ht2⟩ Hk
  ihave Hs := (Entails.of_eq (e1 src q v)) $$ Hs
  ihave Hd := (Entails.of_eq (e2 dst fullShare w)) $$ Hd
  icases Hs with ⟨%fs, %hfs, Hs⟩
  icases Hd with ⟨%fd, %hfd, Hd⟩
  iapply (wp_send_pointsTo 𝒱 E Rd c none (κ₁ := κ₁) (κ₂ := κ₂) (fs := fs) (fd := fd) (q := q) hd₁ hd₂ () () N hN hk₁ hk₂ O hO (W := W)
    (by refine (owns_intro c src q fs).trans ?_; rw [hfs]; exact hpay₁)
    (by
      refine (owns_intro c' dst fullShare _).trans ?_
      rw [View.read_write_univ, hfs]; exact hpay₂) hr) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- A wait for a cell's only round: its payload, and the cell closed. -/
theorem wp_wait_close {w : TpuEff nD τ sig Val Λ c.2 PUnit} {sm : SemLoc sig} {N : ℕ} {d : D}
    (hw : ∀ K : PUnit → sProp 𝕄, wpE' defs 𝒱 c none [] Set.univ w K = waitSpec c Set.univ sm N K)
    {k : PUnit → Prog (TpuEff nD τ sig Val Λ c.2) α} {O : CellTallies nD τ sig Unit} {W : Waits sig Unit}
    (hd : Rd.duties (c, sm) 0 = {d}) (hl : ∀ r, 1 ≤ r → Rd.duties (c, sm) r = ∅) (hu : ¬Rd.unitless (c, sm))
    (hN : Rd.amount (c, sm) 0 d = N) :
    iprop(cellOk E Rd (c, sm) ∗ cred (tallyAt (c, sm) () N) ∗ owes c O W ∗ MayWait c sm () O ∗ atPos E (c, sm) 0 ∅ 0)
      ⊢ iprop(((owes c O (insert (sm, ()) W) ∗ semVal (c, sm) 0 ∗ Rd.payload (c, sm) 0 d)
            -∗ wp frame (wpE defs 𝒱 c none) Set.univ (k ⟨⟩) Q)
          -∗ wp frame (wpE defs 𝒱 c none) Set.univ (.op w k) Q) := by
  have hx : 0 + N = Rd.expect (c, sm) 0 := by
    unfold Schedule.expect Schedule.amountOf; rw [hd, Finset.sum_singleton, hN, zero_add]
  unfold cellOk
  iintro ⟨⟨⟨%κ, #Hi⟩, #Hr⟩, Hc, HO, Hm, Ha⟩ Hk
  iapply (wp_wait_rest_token 𝒱 E Rd c none (κ := κ) hw (Set.mem_univ _) () (O := O) (W := W) (R := 0) (m := 0) (T := ∅) hx) $$ [Hc HO Hm Ha]
  · isplitr; · iexact Hi
    isplitl [Hc]; · iexact Hc
    isplitl [HO]; · iexact HO
    isplitl [Hm]; · iexact Hm
    iexact Ha
  iintro ⟨HO, Ha, -, Hp⟩
  imod (cell_close E Rd (Set.mem_univ κ) hu (R := 0 + 1) hl) $$ [Ha] with Hz
  · isplitr; · iexact Hi
    iexact Ha
  ihave Hp := (Entails.of_eq (show bigSep (Rd.duties (c, sm) 0 \ ∅) (fun d => Rd.payload (c, sm) 0 d) = Rd.payload (c, sm) 0 d by
    rw [Finset.sdiff_empty, hd, bigSep_singleton])) $$ Hp
  iapply Hk
  isplitl [HO]; · iexact HO
  isplitl [Hz]; · iexact Hz
  iexact Hp

/-- A cell no duty was ever due at, closed. -/
theorem close_unused {g : GSem nD τ sig} (hl : ∀ r, 0 ≤ r → Rd.duties g r = ∅) (hu : ¬Rd.unitless g) :
    iprop(cellOk E Rd g ∗ atPos E g 0 ∅ 0) ⊢ (iprop(|={Set.univ}=> semVal g 0) : sProp 𝕄) := by
  unfold cellOk
  iintro ⟨⟨⟨%κ, #Hi⟩, #Hr⟩, Ha⟩
  iapply (cell_close E Rd (Set.mem_univ κ) hu (R := 0) hl)
  isplitr; · iexact Hi
  iexact Ha

/-- Several of them. -/
theorem close_many {J : Type} [DecidableEq J] (s : Finset J) (g : J → GSem nD τ sig) (R : sProp (MT nD τ sig Unit Val ℕ U ℕ)) [BI.Persistent R]
    (hR : ∀ j, R ⊢ cellOk E Rd (g j)) (hl : ∀ j r, 0 ≤ r → Rd.duties (g j) r = ∅) (hu : ∀ j, ¬Rd.unitless (g j)) :
    iprop(R ∗ bigSep s (fun j => atPos E (g j) 0 ∅ 0)) ⊢ (iprop(|={Set.univ}=> bigSep s (fun j => semVal (g j) 0)) : sProp 𝕄) := by
  refine (BI.sep_mono_l (bigSep_intro_persistent (S := s) (Φ := fun j => cellOk E Rd (g j)) fun j _ => hR j)).trans ?_
  refine (Entails.of_eq (bigSep_sep' s _ _).symm).trans ?_
  exact (bigSep_mono fun j _ => close_unused E Rd (hl j) (hu j)).trans (bigSep_fupd s _)

omit [DecidableEq D] in
/-- A family of updates beside what stays. -/
theorem open_frame {J : Type} [DecidableEq J] {s : Finset J} {Φ Ψ : J → sProp (MT nD τ sig Unit Val ℕ U ℕ)}
    (h : bigSep s Φ ⊢ bigSep s fun j => iprop(|={Set.univ}=> Ψ j)) (R : sProp (MT nD τ sig Unit Val ℕ U ℕ)) :
    iprop(bigSep s Φ ∗ R) ⊢ iprop(|={Set.univ}=> (bigSep s Ψ ∗ R)) := by
  iintro ⟨H, HR⟩
  imod (h.trans (bigSep_fupd s Ψ)) $$ H with H
  imodintro
  isplitl [H]; · iexact H
  iexact HR

end Cells

section Ranges

variable {M : Type} [URA M]

theorem sepA (P Q R : sProp M) : iprop((P ∗ Q) ∗ R) = iprop(P ∗ Q ∗ R) := BI.equiv_iff.mp ⟨BI.sep_assoc, BI.sep_assoc'⟩
theorem sepC (P Q : sProp M) : iprop(P ∗ Q) = iprop(Q ∗ P) := BI.equiv_iff.mp ⟨BI.sep_comm, BI.sep_comm⟩
theorem sepE (P : sProp M) : iprop(P ∗ emp) = P := BI.equiv_iff.mp BI.sep_emp

instance sepAssoc : Std.Associative (BIBase.sep (PROP := sProp M)) := ⟨sepA⟩
instance sepComm : Std.Commutative (BIBase.sep (PROP := sProp M)) := ⟨sepC⟩

/-- Entailments of the model: an equality, and what may be dropped. -/
theorem ofEq {P Q : sProp M} (h : P = Q) : Idealize.SL.BI.Entails P Q := h ▸ BI.Entails.refl _
theorem dropR (P Q : sProp M) : Idealize.SL.BI.Entails iprop(P ∗ Q) P := BI.sep_and.trans BI.and_elimL
theorem dropL (P Q : sProp M) : Idealize.SL.BI.Entails iprop(P ∗ Q) Q := BI.sep_and.trans BI.and_elimR

theorem bigSep_range_add (a b : ℕ) (Φ : ℕ → sProp M) :
    bigSep (Finset.range (a + b)) Φ = iprop(bigSep (Finset.range a) Φ ∗ bigSep (Finset.range b) fun y => Φ (a + y)) := by
  induction b with
  | zero => rw [Nat.add_zero, Finset.range_zero, bigSep_empty]; exact (sepE _).symm
  | succ n ih => rw [← Nat.add_assoc, bigSep_range_succ, ih, bigSep_range_succ]; ac_rfl

/-- A range of `a * b` numbers is `a` pieces of `b`. -/
theorem bigSep_range_mul (a b : ℕ) (Φ : ℕ → sProp M) :
    bigSep (Finset.range (a * b)) Φ = bigSep (Finset.range a) fun x => bigSep (Finset.range b) fun y => Φ (x * b + y) := by
  induction a with
  | zero => rw [Nat.zero_mul, Finset.range_zero, bigSep_empty, bigSep_empty]
  | succ n ih => rw [bigSep_range_succ, ← ih, Nat.succ_mul, bigSep_range_add]; ac_rfl

theorem bigSep_range4 (Φ : ℕ → sProp M) : bigSep (Finset.range 4) Φ = iprop(Φ 0 ∗ Φ 1 ∗ Φ 2 ∗ Φ 3) := by
  rw [bigSep_range_succ, bigSep_range_succ, bigSep_range_succ, bigSep_range_succ, Finset.range_zero, bigSep_empty]
  show iprop(Φ 3 ∗ Φ 2 ∗ Φ 1 ∗ Φ 0 ∗ emp) = _
  rw [sepE]; ac_rfl

theorem bigSep_univ_range (n : ℕ) (Ψ : ℕ → sProp M) :
    bigSep Finset.univ (fun t : Fin n => Ψ t.val) = bigSep (Finset.range n) Ψ :=
  Ring.bigSep_fin_eq_range n _ Ψ fun _ _ => rfl

/-- Iterated conjunctions may be taken in either order. -/
theorem bigSep_swap {I J : Type} (s : Finset I) (t : Finset J) (Φ : I → J → sProp M) :
    (bigSep s fun a => bigSep t fun b => Φ a b) = bigSep t fun b => bigSep s fun a => Φ a b := by
  classical
  induction s using Finset.induction_on with
  | empty => simp only [bigSep_empty, bigSep_emp_const]
  | insert a s ha ih => rw [bigSep_insert ha, ih, ← bigSep_sep]; exact bigSep_congr fun b _ => (bigSep_insert (Φ := fun a => Φ a b) ha).symm

end Ranges

end Cert.Common

end
-- ==== Proof.KProgEq.lean ====
/-
The printed kernel is that composition: by unfolding.
-/
module

public import proofs.«01_k».proof.Proof.KProg
public import Idealize.ShloMosaic.Lib.Pipeline.Regions

@[expose] public section

noncomputable section

namespace Cert.KernelPf

open Cert.Kernel Cert.Kernel.Gen
open Idealize.ShloMosaic Idealize.ShloMosaic.TcCoe Idealize.SL.Sem

variable {F : FTy → Type} [FloatOps F]

theorem body_eq : cc0_body (F := F) xM (Memref.isWhole_whole _) aM (Memref.isWhole_whole _) bM (Memref.isWhole_whole _) oM (Memref.isWhole_whole _)
    gM (Memref.isWhole_whole _) pM (Memref.isWhole_whole _) cc0_scratch2 cc0_scratch3 cc0_scratch4 cc0_scratch5 = prog := by
  chain_rfl

end Cert.KernelPf

end
-- ==== Proof.IProg.lean ====
/-
The kernel as a composition of a few steps, each written once for a symbolic pipe `i` and step `s`.

Every pipe `i` (four of them) moves its block of activations one device further per step, and one step behind it the
partial sums. The buffers and semaphores of a pipe and a step are named here by natural numbers, reduced modulo their
array's extent, so that no bound has to be carried along.
-/
module

public import proofs.«01_k».proof.Proof.Gen.KernelIdeal

@[expose] public section

noncomputable section

namespace Cert.KernelIdealPf

open Cert.KernelIdeal Cert.KernelIdeal.Gen
open Idealize.ShloMosaic Idealize.ShloMosaic.TcCoe Idealize.SL.Sem

variable {F : FTy → Type} [FloatOps F]

/-! ## The memrefs -/

abbrev xM : Memref sig .tc .vmem S512x512 .f32 := Memref.whole cc0_stg0_0
abbrev aM : Memref sig .tc .vmem S512x2048 .f32 := Memref.whole cc0_stg1_0
abbrev bM : Memref sig .tc .vmem S2048x512 .f32 := Memref.whole cc0_stg2_0
abbrev oM : Memref sig .tc .vmem S512x512 .f32 := Memref.whole cc0_stg3_0
abbrev gM : Memref sig .tc .vmem S4x16x128x512 .f32 := Memref.whole cc0_scratch0
abbrev pM : Memref sig .tc .vmem S4x17x128x512 .f32 := Memref.whole cc0_scratch1

theorem inbG (i s : ℕ) : ∀ a, (![i % 4, s % 16, 0, 0] : Fin 4 → ℕ) a + S1x1x128x512.size a ≤ S4x16x128x512.size a := by
  have h1 := Nat.mod_lt i (show 0 < 4 by decide); have h2 := Nat.mod_lt s (show 0 < 16 by decide)
  intro a; fin_cases a <;> simp [S1x1x128x512, S4x16x128x512] <;> omega
theorem inbP (i s : ℕ) : ∀ a, (![i % 4, s % 17, 0, 0] : Fin 4 → ℕ) a + S1x1x128x512.size a ≤ S4x17x128x512.size a := by
  have h1 := Nat.mod_lt i (show 0 < 4 by decide); have h2 := Nat.mod_lt s (show 0 < 17 by decide)
  intro a; fin_cases a <;> simp [S1x1x128x512, S4x17x128x512] <;> omega
theorem inb15 (i s : ℕ) : ∀ a, (![i % 4, s % 15] : Fin 2 → ℕ) a + S1x1.size a ≤ S4x15.size a := by
  have h1 := Nat.mod_lt i (show 0 < 4 by decide); have h2 := Nat.mod_lt s (show 0 < 15 by decide)
  intro a; fin_cases a <;> simp [S1x1, S4x15] <;> omega
theorem inb16 (i s : ℕ) : ∀ a, (![i % 4, s % 16] : Fin 2 → ℕ) a + S1x1.size a ≤ S4x16.size a := by
  have h1 := Nat.mod_lt i (show 0 < 4 by decide); have h2 := Nat.mod_lt s (show 0 < 16 by decide)
  intro a; fin_cases a <;> simp [S1x1, S4x16] <;> omega

/-- The row of the device's block at which pipe `i`'s sub-block starts. -/
def rowOf (i : ℕ) : ℕ := (i % 2) * 256 + (i % 4 / 2) * 128
theorem rowOf_le (i : ℕ) : rowOf i + 128 ≤ 512 := by unfold rowOf; omega
theorem inbX (i : ℕ) : ∀ a, (![rowOf i, 0] : Fin 2 → ℕ) a + S128x512.size a ≤ S512x512.size a := by
  have h := rowOf_le i
  intro a; fin_cases a <;> simp [S128x512, S512x512] <;> omega

/-- Slot `(i, s)` of the gathered activations and of the partial sums, and the rows of pipe `i` in `x` and the output. -/
abbrev gR (i s : ℕ) : Rect S4x16x128x512 := Rect.unit (s := S4x16x128x512) ![i % 4, s % 16, 0, 0] S1x1x128x512.size (inbG i s)
abbrev pR (i s : ℕ) : Rect S4x17x128x512 := Rect.unit (s := S4x17x128x512) ![i % 4, s % 17, 0, 0] S1x1x128x512.size (inbP i s)
abbrev xR (i : ℕ) : Rect S512x512 := Rect.unit (s := S512x512) ![rowOf i, 0] S128x512.size (inbX i)
abbrev gS (i s : ℕ) : Memref sig .tc .vmem S128x512 .f32 :=
  (gM.slice (gR i s) (fun _ => rfl)).squeeze S128x512 squeezes_S1x1x128x512_S128x512
abbrev pS (i s : ℕ) : Memref sig .tc .vmem S128x512 .f32 :=
  (pM.slice (pR i s) (fun _ => rfl)).squeeze S128x512 squeezes_S1x1x128x512_S128x512

/-- The semaphores: of the activations' transfers (send, receive) and of the partial sums' (send, receive). -/
abbrev xsS (i s : ℕ) : DmaSems sig S_ := (cc0_scratch2.slice (Rect.unit (s := S4x15) ![i % 4, s % 15] S1x1.size (inb15 i s))).squeeze S_ squeezes_S1x1_S_
abbrev xrS (i s : ℕ) : DmaSems sig S_ := (cc0_scratch3.slice (Rect.unit (s := S4x15) ![i % 4, s % 15] S1x1.size (inb15 i s))).squeeze S_ squeezes_S1x1_S_
abbrev psS (i s : ℕ) : DmaSems sig S_ := (cc0_scratch4.slice (Rect.unit (s := S4x16) ![i % 4, s % 16] S1x1.size (inb16 i s))).squeeze S_ squeezes_S1x1_S_
abbrev prS (i s : ℕ) : DmaSems sig S_ := (cc0_scratch5.slice (Rect.unit (s := S4x16) ![i % 4, s % 16] S1x1.size (inb16 i s))).squeeze S_ squeezes_S1x1_S_

abbrev barS : Sems sig S_ := SemArray.scalar (sig.barrier 0 rfl)

/-! ## The neighbours, as the kernel computes them -/

abbrev devR (d : Dev nD) : Dev nD := ⟨k0_dev3 d, k0_dev3_lt d⟩
abbrev devL (d : Dev nD) : Dev nD := ⟨k0_dev4 d, k0_dev4_lt d⟩
/-- The device pipe `i` sends to: the right neighbour for an even pipe, the left one for an odd pipe. -/
def devT (i : ℕ) (d : Dev nD) : Dev nD := match i % 2 with
  | 0 => devR d
  | _ => devL d

/-! ## The arithmetic -/

/-- A block of activations through the two products and the gate. -/
def mlp (v : FVec F S128x512 .f32) (w1 : Vec F S512x2048 .f32) (w2 : Vec F S2048x512 .f32) : FVec F S128x512 .f32 :=
  have h : FVec F S128x2048 .f32 := matmul dot_S128x512_S512x2048_S128x2048_1_0_0_1_n_n none v
    (shapeCast S512x2048 w1 shapeCasts_S512x2048_S512x2048) (constant S128x2048 .f32 0x00000000#32)
  matmul dot_S128x2048_S2048x512_S128x512_1_0_0_1_n_n none (mulf h (logistic h))
    (shapeCast S2048x512 w2 shapeCasts_S2048x512_S2048x512) (constant S128x512 .f32 0x00000000#32)
def flat (v : Vec F S1x1x128x512 .f32) : FVec F S128x512 .f32 := shapeCast S128x512 v shapeCasts_S1x1x128x512_S128x512
def unflat (v : FVec F S128x512 .f32) : FVec F S1x1x128x512 .f32 := shapeCast S1x1x128x512 v shapeCasts_S128x512_S1x1x128x512
def same (v : Vec F S128x512 .f32) : FVec F S128x512 .f32 := shapeCast S128x512 v shapeCasts_S128x512_S128x512

/-! ## The steps -/

abbrev KP (F : FTy → Type) (α : Type) : Type 1 := Prog (TpuEff nD τ sig (Elt F) Λ₀ .tc) α

def ldG (i s : ℕ) : KP F (Vec F S1x1x128x512 .f32) := Prog.lift (.load gM (gR i s).toLoadRect (View.loadsAt_vmem h_S1x1x128x512))
def ldP (i s : ℕ) : KP F (Vec F S1x1x128x512 .f32) := Prog.lift (.load pM (pR i s).toLoadRect (View.loadsAt_vmem h_S1x1x128x512))
def ldX (i : ℕ) : KP F (Vec F S128x512 .f32) := Prog.lift (.load xM (xR i).toLoadRect (View.loadsAt_vmem h_S128x512))
def ldO (i : ℕ) : KP F (Vec F S128x512 .f32) := Prog.lift (.load oM (xR i).toLoadRect (View.loadsAt_vmem h_S128x512))
def ldA : KP F (Vec F S512x2048 .f32) :=
  Prog.lift (.load aM (Rect.unit (s := S512x2048) ![0, 0] S512x2048.size inb_S512x2048_S512x2048_0_0).toLoadRect (View.loadsAt_vmem h_S512x2048))
def ldB : KP F (Vec F S2048x512 .f32) :=
  Prog.lift (.load bM (Rect.unit (s := S2048x512) ![0, 0] S2048x512.size inb_S2048x512_S2048x512_0_0).toLoadRect (View.loadsAt_vmem h_S2048x512))
def stG (i s : ℕ) (v : FVec F S1x1x128x512 .f32) : KP F PUnit :=
  Prog.lift (.store gM (gR i s) v Finset.univ (View.stores_vmem_bits_univ h_S1x1x128x512 rfl) (.inl rfl))
def stP (i s : ℕ) (v : FVec F S1x1x128x512 .f32) : KP F PUnit :=
  Prog.lift (.store pM (pR i s) v Finset.univ (View.stores_vmem_bits_univ h_S1x1x128x512 rfl) (.inl rfl))
def stO (i : ℕ) (v : FVec F S128x512 .f32) : KP F PUnit :=
  Prog.lift (.store oM (xR i) v Finset.univ (View.stores_vmem_bits_univ h_S128x512 rfl) (.inl rfl))

/-- The transfers of slot `(i, s)` to the neighbour's slot `(i, s + 1)`, and the waits for their two ends. -/
def sendX (d : Dev nD) (i s : ℕ) : KP F PUnit :=
  Prog.lift (.enqueueDma (gS i s) (.remote (Dev.tc (devT i d)) (gS i (s + 1)) (.dma (xsS i s).sem)) (.dma (xrS i s).sem)
    ((View.wordExact_bits rfl).reshape _ _) ((View.wordExact_bits rfl).reshape _ _) ⟨⟨rfl, Or.inl rfl⟩, trivial⟩)
def sendP (d : Dev nD) (i s : ℕ) : KP F PUnit :=
  Prog.lift (.enqueueDma (pS i s) (.remote (Dev.tc (devT i d)) (pS i (s + 1)) (.dma (psS i s).sem)) (.dma (prS i s).sem)
    ((View.wordExact_bits rfl).reshape _ _) ((View.wordExact_bits rfl).reshape _ _) ⟨⟨rfl, Or.inl rfl⟩, trivial⟩)
def waitXR (i s : ℕ) : KP F PUnit := Prog.lift (.waitDma2 (xrS i s).sem (gS i s) (gS i (s + 1)) ((View.wordExact_bits rfl).reshape _ _) ((View.wordExact_bits rfl).reshape _ _))
def waitPR (i s : ℕ) : KP F PUnit := Prog.lift (.waitDma2 (prS i s).sem (pS i s) (pS i (s + 1)) ((View.wordExact_bits rfl).reshape _ _) ((View.wordExact_bits rfl).reshape _ _))
def waitXS (i s : ℕ) : KP F PUnit := Prog.lift (.waitDma2 (xsS i s).sem (gS i (s + 1)) (gS i s) ((View.wordExact_bits rfl).reshape _ _) ((View.wordExact_bits rfl).reshape _ _))
def waitPS (i s : ℕ) : KP F PUnit := Prog.lift (.waitDma2 (psS i s).sem (pS i (s + 1)) (pS i s) ((View.wordExact_bits rfl).reshape _ _) ((View.wordExact_bits rfl).reshape _ _))

/-- The handshake: a signal to either neighbour, a wait for both of theirs. -/
def meet : KP F (Dev nD) := do
  let d : Dev nD ← Prog.lift .deviceId
  semSignalWord (⟨k0_dev1 d, k0_dev1_lt d⟩ : Dev nD) barS.sem 1#32
  semSignalWord (⟨k0_dev2 d, k0_dev2_lt d⟩ : Dev nD) barS.sem 1#32
  semWaitWord barS.sem 2#32
  pure d

/-- Pipe `i`'s sub-block of `x` copied to its first slot and sent on. -/
def stage (d : Dev nD) (i : ℕ) : KP F PUnit := do
  let v ← ldX i
  let _ ← ldG i 0
  stG i 0 (unflat (same v))
  sendX d i 0

/-- The device's own term of the partial sum. -/
def comp (i s : ℕ) : KP F PUnit := do
  let v ← ldG i s
  let a ← ldA
  let b ← ldB
  let _ ← ldP i s
  stP i s (unflat (mlp (flat v) a b))

/-- The same, added to what has arrived from the neighbour. -/
def compAdd (i s : ℕ) : KP F PUnit := do
  let v ← ldG i (s + 1)
  let a ← ldA
  let b ← ldB
  waitPR i s
  let u ← ldP i (s + 1)
  let _ ← ldP i (s + 1)
  stP i (s + 1) (unflat (addf (flat u) (mlp (flat v) a b)))

/-- The first step, a middle step (the `s + 1`-st), the last one. -/
def first (d : Dev nD) (i : ℕ) : KP F PUnit := do
  waitXR i 0
  sendX d i 1
  comp i 1
  sendP d i 1
def mid (d : Dev nD) (s i : ℕ) : KP F PUnit := do
  waitXR i s
  sendX d i (s + 1)
  compAdd i s
  sendP d i (s + 1)
def last (d : Dev nD) (i : ℕ) : KP F PUnit := do
  waitXR i 14
  compAdd i 14
  sendP d i 15

/-- The sum that has gone round plus the device's own term, into pipe `i`'s rows of the output. -/
def fin (i : ℕ) : KP F PUnit := do
  waitPR i 15
  let u ← ldP i 16
  let v ← ldP i 0
  let _ ← ldO i
  stO i (addf (flat u) (flat v))

/-- One after the other. -/
def runL : List (KP F PUnit) → KP F PUnit
  | [] => pure ⟨⟩
  | p :: ps => p >>= fun _ => runL ps

/-- A step for each of the four pipes. -/
def each (f : ℕ → KP F PUnit) : List (KP F PUnit) := [f 0, f 1, f 2, f 3]

/-- All of them, after the handshake. -/
def steps (d : Dev nD) : List (KP F PUnit) :=
  each (stage d) ++ (each (fun i => comp i 0) ++ (each (first d)
    ++ ((List.range' 1 13).flatMap (fun s => each (mid d s)) ++ (each (last d) ++ (each fin
    ++ ((List.range 4).flatMap (fun i => (List.range 15).map (waitXS i))
    ++ (List.range 4).flatMap (fun i => (List.range' 1 15).map (waitPS i))))))))

def prog : KP F PUnit := meet >>= fun d => runL (steps d)

end Cert.KernelIdealPf

end
-- ==== Proof.ISched.lean ====
/-
The protocol: the cells' numbers, what each transfer and each signal hands over, what a device owes and in which order
it pays, and the levels that order the waits.

Pipe `i` of device `c` sends its block of activations of step `s` to the next device of its direction (slot `s` here to
slot `s + 1` there), and one step behind it the partial sum. A transfer's sending cell gives the source back, its receiving
cell hands over the landing slot at what was sent. At the handshake a device hands its landing slots to the two
neighbours that will write them.
-/
module

public import proofs.«01_k».proof.Proof.IProg
public import proofs.«01_k».proof.Proof.Common
public import proofs.«01_k».proof.Proof.Gen.KernelIdeal.Launch

@[expose] public section

noncomputable section

namespace Cert.KernelIdealPf

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
def rgt (c : Dev nD) : Dev nD := ⟨(c.val + 1) % 16, Nat.mod_lt _ (by decide)⟩
set_option backward.proofsInPublic true in
def lft (c : Dev nD) : Dev nD := ⟨(c.val + 15) % 16, Nat.mod_lt _ (by decide)⟩

theorem lft_rgt (c : Dev nD) : lft (rgt c) = c := by revert c; decide
theorem rgt_lft (c : Dev nD) : rgt (lft c) = c := by revert c; decide
def ring : Dev nD ≃ Dev nD := ⟨rgt, lft, lft_rgt, rgt_lft⟩

theorem devR_eq (c : Dev nD) : devR c = rgt c := by revert c; decide +kernel
theorem devL_eq (c : Dev nD) : devL c = lft c := by revert c; decide +kernel
theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel

/-- Whom pipe `i` sends to, and whom it receives from. -/
def dirE (i : ℕ) : Dev nD ≃ Dev nD := match i % 2 with
  | 0 => ring
  | _ => ring.symm
def tgt (i : ℕ) (c : Dev nD) : Dev nD := dirE i c
def src (i : ℕ) (c : Dev nD) : Dev nD := (dirE i).symm c

theorem tgt_src (i : ℕ) (c : Dev nD) : tgt i (src i c) = c := (dirE i).apply_symm_apply c
theorem src_tgt (i : ℕ) (c : Dev nD) : src i (tgt i c) = c := (dirE i).symm_apply_apply c
theorem devT_eq (i : ℕ) (c : Dev nD) : devT i c = tgt i c := by
  unfold devT tgt dirE
  rcases Nat.mod_two_eq_zero_or_one i with h | h <;> rw [h]
  · exact devR_eq c
  · exact devL_eq c

/-! ## The cells -/

def xsN (i s : ℕ) : ℕ := 4 + (15 * (i % 4) + s % 15)
def xrN (i s : ℕ) : ℕ := 64 + (15 * (i % 4) + s % 15)
def psN (i s : ℕ) : ℕ := 124 + (16 * (i % 4) + s % 16)
def prN (i s : ℕ) : ℕ := 188 + (16 * (i % 4) + s % 16)

theorem rowMajor_at {n a b : ℕ} (h : ∀ x, (![a, b] : Fin 2 → ℕ) x + S1x1.size x ≤ (⟨2, ![4, n]⟩ : Shape).size x) (y : S1x1.Idx) :
    ((⟨2, ![4, n]⟩ : Shape).rowMajor ((Rect.unit (s := ⟨2, ![4, n]⟩) ![a, b] S1x1.size h).emb y)).val = n * a + b := by
  have h0 : (y 0).val < 1 := (y 0).isLt
  have h1 : (y 1).val < 1 := (y 1).isLt
  rw [Shape.rowMajor_val_two]
  show (a + 1 * (y 0).val) * n + (b + 1 * (y 1).val) = _
  rw [show (y 0).val = 0 by omega, show (y 1).val = 0 by omega, Nat.mul_comm n a, Nat.mul_zero, Nat.add_zero, Nat.add_zero]

theorem xsS_val (i s : ℕ) : (xsS i s).sem.val = xsN i s := congrArg (4 + ·) (rowMajor_at (inb15 i s) _)
theorem xrS_val (i s : ℕ) : (xrS i s).sem.val = xrN i s := congrArg (64 + ·) (rowMajor_at (inb15 i s) _)
theorem psS_val (i s : ℕ) : (psS i s).sem.val = psN i s := congrArg (124 + ·) (rowMajor_at (inb16 i s) _)
theorem prS_val (i s : ℕ) : (prS i s).sem.val = prN i s := congrArg (188 + ·) (rowMajor_at (inb16 i s) _)

abbrev xsC (c : Dev nD) (i s : ℕ) : GSem nD τ sig := ((c : Thread nD τ), .dma (xsS i s).sem)
abbrev xrC (c : Dev nD) (i s : ℕ) : GSem nD τ sig := ((c : Thread nD τ), .dma (xrS i s).sem)
abbrev psC (c : Dev nD) (i s : ℕ) : GSem nD τ sig := ((c : Thread nD τ), .dma (psS i s).sem)
abbrev prC (c : Dev nD) (i s : ℕ) : GSem nD τ sig := ((c : Thread nD τ), .dma (prS i s).sem)
abbrev barC (c : Dev nD) : GSem nD τ sig := ((c : Thread nD τ), .reg barS.sem)

/-! ## Contents -/

def xstg (c : Dev nD) : Vec F S512x512 .f32 := (win0_0.blk (0 : Fin 1)).view.read (Elt F) (m ((c : Thread nD τ).loc main_arg0))
def astg (c : Dev nD) : Vec F S512x2048 .f32 := (win0_1.blk (0 : Fin 1)).view.read (Elt F) (m ((c : Thread nD τ).loc main_arg1))
def bstg (c : Dev nD) : Vec F S2048x512 .f32 := (win0_2.blk (0 : Fin 1)).view.read (Elt F) (m ((c : Thread nD τ).loc main_arg2))

/-- Pipe `i`'s rows of the device's block of `x`. -/
def xblk (c : Dev nD) (i : ℕ) : FVec F S128x512 .f32 := same (xM.view.readAt (Elt F) (xR i).toLoadRect (xstg m c))

/-- Device `c`'s term of the sum for a block of activations. -/
def term (c : Dev nD) (v : FVec F S128x512 .f32) : FVec F S128x512 .f32 := mlp v (astg m c) (bstg m c)

/-- The activations in slot `s` of pipe `i`. -/
def XV (i : ℕ) : ℕ → Dev nD → FVec F S128x512 .f32
  | 0, c => xblk m c i
  | s + 1, c => XV i s (src i c)

/-- The partial sum device `c` sends on at step `s` (from step 1 on). -/
def AV (i : ℕ) : ℕ → Dev nD → FVec F S128x512 .f32
  | 0, c => term m c (XV m i 0 c)
  | 1, c => term m c (XV m i 1 c)
  | s + 2, c => addf (AV i (s + 1) (src i c)) (term m c (XV m i (s + 2) c))

/-- Pipe `i`'s rows of the result. -/
def res (c : Dev nD) (i : ℕ) : FVec F S128x512 .f32 := addf (AV m i 15 (src i c)) (term m c (XV m i 0 c))

/-- Slots of `c`'s two buffers. -/
def gO (c : Dev nD) (i s : ℕ) (q : PosShare TreeShare) (v : FVec F S128x512 .f32) : sProp 𝕄 := owns (c : Thread nD τ) (gS i s) q v
def pO (c : Dev nD) (i s : ℕ) (v : FVec F S128x512 .f32) : sProp 𝕄 := owns (c : Thread nD τ) (pS i s) fullShare v
def gAny (c : Dev nD) (i s : ℕ) : sProp 𝕄 := iprop(∃ v, gO c i s fullShare v)
def pAny (c : Dev nD) (i s : ℕ) : sProp 𝕄 := iprop(∃ v, pO c i s v)

/-- The slots of pipe `i` that another device writes. -/
def land (c : Dev nD) (i : ℕ) : sProp 𝕄 :=
  iprop(bigSep (Finset.range 15) (fun s => gAny (F := F) c i (s + 1)) ∗ bigSep (Finset.range 15) (fun s => pAny (F := F) c i (s + 2)))

/-! ## The schedule -/

def xsPay (c : Dev nD) (i s : ℕ) : sProp 𝕄 := gO c i s fullShare.left (XV m i s c)
def xrPay (c : Dev nD) (i s : ℕ) : sProp 𝕄 := gO c i (s + 1) fullShare (XV m i (s + 1) c)
def psPay (c : Dev nD) (i s : ℕ) : sProp 𝕄 := pO c i s (AV m i s c)
def prPay (c : Dev nD) (i s : ℕ) : sProp 𝕄 := pO c i (s + 1) (AV m i s (src i c))
def barPay (c : Dev nD) (b : Bool) : sProp 𝕄 :=
  if b then iprop(land (F := F) (lft c) 1 ∗ land (F := F) (lft c) 3) else iprop(land (F := F) (rgt c) 0 ∗ land (F := F) (rgt c) 2)

def dmaPay (c : Dev nD) (q : ℕ) : sProp 𝕄 :=
  if q < 64 then xsPay m c ((q - 4) / 15) ((q - 4) % 15)
  else if q < 124 then xrPay m c ((q - 64) / 15) ((q - 64) % 15)
  else if q < 188 then psPay m c ((q - 124) / 16) ((q - 124) % 16)
  else prPay m c ((q - 188) / 16) ((q - 188) % 16)

/-- The transfers' semaphores: the staging ones and the partial sums' at step 0 are never signalled by the body. -/
def live (q : ℕ) : Prop := 4 ≤ q ∧ (q < 124 ∨ (q - 124) % 16 ≠ 0)
instance (q : ℕ) : Decidable (live q) := by unfold live; infer_instance

abbrev NX : ℕ := (gS 0 0).view.dmaCredit
abbrev NP : ℕ := (pS 0 0).view.dmaCredit
theorem NX_pos : 0 < NX := View.dmaCredit_pos _ (by decide)
theorem NP_pos : 0 < NP := View.dmaCredit_pos _ (by decide)

def sched : Rounds.Schedule (GSem nD τ sig) Bool 𝕄 where
  duties g r := if r = 0 ∧ g.1.2 = .tc then (match g.2 with
    | .reg _ => Finset.univ
    | .dma q => if live q.val then {false} else ∅) else ∅
  unitless _ := False
  amount g _ _ := match g.2 with
    | .reg _ => 1
    | .dma q => if q.val < 124 then NX else NP
  payload g _ d := match g.2 with
    | .reg _ => barPay g.1.1 d
    | .dma q => dmaPay m g.1.1 q.val
  amount_pos g _ _ _ := by
    rcases g with ⟨t, s | q⟩
    · exact Nat.one_pos
    · show 0 < if q.val < 124 then NX else NP
      split
      · exact NX_pos
      · exact NP_pos

instance gO_storable (c : Dev nD) (i s : ℕ) (q) (v) : BI.Storable (upEmb : UEmb _ 𝕄) (gO (F := F) c i s q v) := by unfold gO; infer_instance
instance pO_storable (c : Dev nD) (i s : ℕ) (v) : BI.Storable (upEmb : UEmb _ 𝕄) (pO (F := F) c i s v) := by unfold pO; infer_instance
instance land_storable (c : Dev nD) (i : ℕ) : BI.Storable (upEmb : UEmb _ 𝕄) (land (F := F) c i) := by unfold land gAny pAny; infer_instance

instance sched_storable (g : GSem nD τ sig) (r : ℕ) (d : Bool) : BI.Storable (upEmb : UEmb _ 𝕄) ((sched (F := F) m).payload g r d) := by
  rcases g with ⟨t, s | q⟩
  · show BI.Storable _ (barPay t.1 d)
    unfold barPay; split <;> infer_instance
  · show BI.Storable _ (dmaPay m t.1 q.val)
    unfold dmaPay xsPay xrPay psPay prPay; (repeat' split) <;> infer_instance

/-! ### The schedule at the named cells -/

section At
variable (c : Dev nD)

theorem duties_dma (q : DmaSem sig) (h : live q.val) : (sched (F := F) m).duties ((c : Thread nD τ), .dma q) 0 = {false} := by
  dsimp only [sched]; rw [if_pos ⟨rfl, rfl⟩, if_pos h]
theorem duties_dead (q : DmaSem sig) (h : ¬ live q.val) (r : ℕ) : (sched (F := F) m).duties ((c : Thread nD τ), .dma q) r = ∅ := by
  dsimp only [sched]; rw [if_neg h]; split <;> rfl
theorem duties_bar : (sched (F := F) m).duties (barC c) 0 = Finset.univ := by
  dsimp only [sched]; rw [if_pos ⟨rfl, rfl⟩]
theorem duties_later (g : GSem nD τ sig) : ∀ r, 1 ≤ r → (sched (F := F) m).duties g r = ∅ := fun r hr => by
  dsimp only [sched]; rw [if_neg fun h => by omega]
theorem not_unitless (g : GSem nD τ sig) : ¬ (sched (F := F) m).unitless g := fun h => h

variable {i s : ℕ} (hi : i < 4)
include hi
theorem live_xs : live (xsS i s).sem.val := by rw [xsS_val]; unfold live xsN; omega
theorem live_xr : live (xrS i s).sem.val := by rw [xrS_val]; unfold live xrN; omega
theorem live_ps (h1 : 1 ≤ s) (h2 : s < 16) : live (psS i s).sem.val := by rw [psS_val]; unfold live psN; omega
theorem live_pr (h1 : 1 ≤ s) (h2 : s < 16) : live (prS i s).sem.val := by rw [prS_val]; unfold live prN; omega

theorem amount_xs (d : Bool) : (sched (F := F) m).amount (xsC c i s) 0 d = NX := by
  show (if (xsS i s).sem.val < 124 then NX else NP) = _
  rw [if_pos (by rw [xsS_val]; unfold xsN; omega)]
theorem amount_xr (d : Bool) : (sched (F := F) m).amount (xrC c i s) 0 d = NX := by
  show (if (xrS i s).sem.val < 124 then NX else NP) = _
  rw [if_pos (by rw [xrS_val]; unfold xrN; omega)]
theorem amount_ps (d : Bool) : (sched (F := F) m).amount (psC c i s) 0 d = NP := by
  show (if (psS i s).sem.val < 124 then NX else NP) = _
  rw [if_neg (by rw [psS_val]; unfold psN; omega)]
theorem amount_pr (d : Bool) : (sched (F := F) m).amount (prC c i s) 0 d = NP := by
  show (if (prS i s).sem.val < 124 then NX else NP) = _
  rw [if_neg (by rw [prS_val]; unfold prN; omega)]

theorem pay_xs (hs : s < 15) (d : Bool) : (sched (F := F) m).payload (xsC c i s) 0 d = xsPay m c i s := by
  show dmaPay m c (xsS i s).sem.val = _
  rw [xsS_val]; unfold dmaPay xsN
  rw [if_pos (by omega)]; congr 1 <;> omega
theorem pay_xr (hs : s < 15) (d : Bool) : (sched (F := F) m).payload (xrC c i s) 0 d = xrPay m c i s := by
  show dmaPay m c (xrS i s).sem.val = _
  rw [xrS_val]; unfold dmaPay xrN
  rw [if_neg (by omega), if_pos (by omega)]; congr 1 <;> omega
theorem pay_ps (hs : s < 16) (d : Bool) : (sched (F := F) m).payload (psC c i s) 0 d = psPay m c i s := by
  show dmaPay m c (psS i s).sem.val = _
  rw [psS_val]; unfold dmaPay psN
  rw [if_neg (by omega), if_neg (by omega), if_pos (by omega)]; congr 1 <;> omega
theorem pay_pr (hs : s < 16) (d : Bool) : (sched (F := F) m).payload (prC c i s) 0 d = prPay m c i s := by
  show dmaPay m c (prS i s).sem.val = _
  rw [prS_val]; unfold dmaPay prN
  rw [if_neg (by omega), if_neg (by omega), if_neg (by omega)]; congr 1 <;> omega

end At

/-! ## What a device owes, and the levels -/

/-- The `k`-th payment: at even `k` of activations, at odd `k` of a partial sum, the pipes in turn. -/
def due (c : Dev nD) (k : ℕ) : CellTallies nD τ sig Unit :=
  if k % 2 = 0 then (if k / 8 < 15 then tallyAt (xrC (tgt (k / 2 % 4) c) (k / 2 % 4) (k / 8)) () NX else 0)
  else if 1 ≤ k / 8 then tallyAt (prC (tgt (k / 2 % 4) c) (k / 2 % 4) (k / 8)) () NP else 0

/-- What is still owed before the `n`-th payment. -/
def O (c : Dev nD) (n : ℕ) : CellTallies nD τ sig Unit := ∑ k ∈ Finset.Ico n 128, due c k
def O₁ (c : Dev nD) : CellTallies nD τ sig Unit := O c 0 + tallyAt (barC (rgt c)) () 1
def O₀ (c : Dev nD) : CellTallies nD τ sig Unit := O₁ c + tallyAt (barC (lft c)) () 1

theorem O_end (c : Dev nD) : O c 128 = 0 := by unfold O; rw [Finset.Ico_self, Finset.sum_empty]
theorem O_succ (c : Dev nD) {n : ℕ} (h : n < 128) : O c n = O c (n + 1) + due c n := by
  have e : Finset.Ico n 128 = insert n (Finset.Ico (n + 1) 128) := by
    ext k; rw [Finset.mem_insert, Finset.mem_Ico, Finset.mem_Ico]; omega
  unfold O; rw [e, Finset.sum_insert (fun h' => by rw [Finset.mem_Ico] at h'; omega), add_comm]

theorem due_x (c : Dev nD) {i s : ℕ} (hi : i < 4) (hs : s < 15) : due c (2 * (4 * s + i)) = tallyAt (xrC (tgt i c) i s) () NX := by
  have e1 : 2 * (4 * s + i) / 2 % 4 = i := by omega
  have e2 : 2 * (4 * s + i) / 8 = s := by omega
  unfold due; rw [if_pos (by omega), e1, e2, if_pos hs]
theorem due_a (c : Dev nD) {i s : ℕ} (hi : i < 4) (hs : 1 ≤ s) : due c (2 * (4 * s + i) + 1) = tallyAt (prC (tgt i c) i s) () NP := by
  have e1 : (2 * (4 * s + i) + 1) / 2 % 4 = i := by omega
  have e2 : (2 * (4 * s + i) + 1) / 8 = s := by omega
  unfold due; rw [if_neg (by omega), e1, e2, if_pos hs]
theorem due_x15 (c : Dev nD) {i : ℕ} (hi : i < 4) : due c (2 * (4 * 15 + i)) = 0 := by
  unfold due; rw [if_pos (by omega), if_neg (by omega)]
theorem due_a0 (c : Dev nD) {i : ℕ} (hi : i < 4) : due c (2 * (4 * 0 + i) + 1) = 0 := by
  unfold due; rw [if_neg (by omega), if_neg (by omega)]

def L (g : GSem nD τ sig) : Finset Unit := if g.1.2 = .tc then {()} else ∅
def lvq (q : ℕ) : ℕ :=
  if q < 64 then 0 else if q < 124 then 2 + 2 * (4 * ((q - 64) % 15) + (q - 64) / 15)
  else if q < 188 then 0 else 3 + 2 * (4 * ((q - 188) % 16) + (q - 188) / 16)
def lv (g : GSem nD τ sig) (_ : Unit) : ℕ := match g.2 with
  | .reg _ => 1
  | .dma q => lvq q.val

theorem L_of_ne (g : GSem nD τ sig) (h : g.1.2 ≠ .tc) : L g = ∅ := if_neg h
theorem L_tc (c : Dev nD) (sm : SemLoc sig) : L ((c : Thread nD τ), sm) = {()} := if_pos rfl

theorem lv_xr (c : Dev nD) {i s : ℕ} (hi : i < 4) (hs : s < 15) : lv (xrC c i s) () = 2 + 2 * (4 * s + i) := by
  show lvq (xrS i s).sem.val = _
  rw [xrS_val]; unfold lvq xrN; rw [if_neg (by omega), if_pos (by omega)]; omega
theorem lv_pr (c : Dev nD) {i s : ℕ} (hi : i < 4) (hs : s < 16) : lv (prC c i s) () = 3 + 2 * (4 * s + i) := by
  show lvq (prS i s).sem.val = _
  rw [prS_val]; unfold lvq prN; rw [if_neg (by omega), if_neg (by omega), if_neg (by omega)]; omega

theorem tallyAt_pos' {g g' : GSem nD τ sig} {u v : Unit} {N : ℕ} (h : 0 < (tallyAt g v N : CellTallies nD τ sig Unit) g' u) : g' = g := by
  rw [tallyAt_apply] at h
  by_contra hn
  rw [if_neg fun h' => hn h'.1] at h
  exact Nat.lt_irrefl 0 h

theorem due_pos {c : Dev nD} {k : ℕ} (hk : k < 128) {g : GSem nD τ sig} {u : Unit} (h : 0 < due c k g u) : u ∈ L g ∧ lv g u = 2 + k := by
  unfold due at h
  split at h
  · split at h
    · rw [tallyAt_pos' h]
      refine ⟨by rw [L_tc]; exact Finset.mem_singleton_self _, ?_⟩
      exact (lv_xr _ (Nat.mod_lt _ (by decide)) (by assumption)).trans (by omega)
    · exact absurd h (Nat.lt_irrefl 0)
  · split at h
    · rw [tallyAt_pos' h]
      refine ⟨by rw [L_tc]; exact Finset.mem_singleton_self _, ?_⟩
      exact (lv_pr _ (Nat.mod_lt _ (by decide)) (by omega)).trans (by omega)
    · exact absurd h (Nat.lt_irrefl 0)

theorem sum_pos {S : Finset ℕ} {f : ℕ → CellTallies nD τ sig Unit} {g : GSem nD τ sig} {u : Unit} (h : 0 < (∑ k ∈ S, f k) g u) :
    ∃ k ∈ S, 0 < f k g u := by
  by_contra hn
  have hz : ∀ k ∈ S, f k g u = 0 := fun k hk => by
    by_contra h'; exact hn ⟨k, hk, Nat.pos_of_ne_zero h'⟩
  rw [Finset.sum_apply, Finsupp.finset_sum_apply, Finset.sum_eq_zero hz] at h
  exact Nat.lt_irrefl 0 h

theorem O_pos {c : Dev nD} {n : ℕ} {g : GSem nD τ sig} {u : Unit} (h : 0 < O c n g u) : u ∈ L g ∧ 2 + n ≤ lv g u := by
  obtain ⟨k, hk, hp⟩ := sum_pos h
  rw [Finset.mem_Ico] at hk
  obtain ⟨h1, h2⟩ := due_pos hk.2 hp
  exact ⟨h1, by omega⟩

theorem O₀_pos {c : Dev nD} {g : GSem nD τ sig} {u : Unit} (h : 0 < O₀ c g u) : u ∈ L g ∧ 1 ≤ lv g u := by
  unfold O₀ O₁ at h
  rw [Pi.add_apply, Finsupp.add_apply, Pi.add_apply, Finsupp.add_apply] at h
  rcases Nat.eq_zero_or_pos (O c 0 g u) with h1 | h1
  · rcases Nat.eq_zero_or_pos ((tallyAt (barC (rgt c)) () 1 : CellTallies nD τ sig Unit) g u) with h2 | h2
    · rw [h1, h2, Nat.zero_add] at h
      rw [tallyAt_pos' h]; exact ⟨by rw [L_tc]; exact Finset.mem_singleton_self _, le_refl _⟩
    · rw [tallyAt_pos' h2]; exact ⟨by rw [L_tc]; exact Finset.mem_singleton_self _, le_refl _⟩
  · have := O_pos h1; exact ⟨this.1, by omega⟩

/-- A wait below every level still owed is allowed. -/
theorem mayWait (c : Dev nD) (sm : SemLoc sig) (n : ℕ) (h : lv ((c : Thread nD τ), sm) () < 2 + n) :
    (levAts L lv : sProp 𝕄) ⊢ MayWait (c : Thread nD τ) sm () (O c n) :=
  MayOwe.of_cut (L := L) (lev := lv) (1 + n) (fun p hp => by rw [Finset.mem_singleton.mp hp, L_tc]; exact Finset.mem_singleton_self _)
    (fun g u hg => (O_pos hg).1) (fun p hp => by rw [Finset.mem_singleton.mp hp]; show lv (_, sm) () ≤ _; omega)
    (fun g u hg => by have := (O_pos hg).2; omega)

theorem mayWait₀ (c : Dev nD) (sm : SemLoc sig) (h : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => (O₀_pos hg).1) (fun p hp => by rw [Finset.mem_singleton.mp hp]; exact le_of_eq h)
    (fun g u hg => (O₀_pos hg).2)

end Cert.KernelIdealPf

end
-- ==== Proof.IBody.lean ====
/-
The body, step by step. A step's rule says what it needs and leaves, beside the staged operands and what the device
still owes; the steps' rules compose, so that each is proved once, for a symbolic device, pipe and step number.
-/
module

public import proofs.«01_k».proof.Proof.ISched

@[expose] public section

noncomputable section

namespace Cert.KernelIdealPf

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The records -/

/-- A device's cells: those of the transfers in their order, then the barrier's. -/
def ksem (k : Fin 249) : SemLoc sig := if h : k.val < 248 then .dma ⟨4 + k.val, by show _ < 252; omega⟩ else .reg barS.sem
def kcell (ck : Dev nD × Fin 249) : GSem nD τ sig := ((ck.1 : Thread nD τ), ksem ck.2)

theorem ksem_dma (q : DmaSem sig) (h : 4 ≤ q.val) : ksem ⟨q.val - 4, by have : q.val < 252 := q.isLt; omega⟩ = .dma q := by
  have hq : q.val < 252 := q.isLt
  unfold ksem; rw [dif_pos (by show q.val - 4 < 248; omega)]
  exact congrArg SemLoc.dma (Fin.ext (by show 4 + (q.val - 4) = _; omega))
theorem ksem_bar : ksem ⟨248, by decide⟩ = .reg barS.sem := by unfold ksem; rw [dif_neg (by decide)]

/-- Every device's cells are kept. -/
def recs : sProp 𝕄 := bigSep Finset.univ (fun ck : Dev nD × Fin 249 => cellOk ER (sched (F := F) m) (kcell ck))
instance recs_persistent : BI.Persistent (recs (F := F) m) := by unfold recs; infer_instance
def ctx : sProp 𝕄 := iprop(recs (F := F) m ∗ levAts L lv)
instance ctx_persistent : BI.Persistent (ctx (F := F) m) := by unfold ctx; infer_instance

theorem rec_at (ck : Dev nD × Fin 249) : recs (F := F) m ⊢ cellOk ER (sched (F := F) m) (kcell ck) := by
  unfold recs; exact bigSep_elim (Finset.mem_univ ck)
theorem kcell_dma (c : Dev nD) (q : DmaSem sig) (h : 4 ≤ q.val) :
    kcell (c, ⟨q.val - 4, by have : q.val < 252 := q.isLt; omega⟩) = ((c : Thread nD τ), .dma q) := by
  unfold kcell; rw [ksem_dma q h]
theorem kcell_bar (c : Dev nD) : kcell (c, ⟨248, by decide⟩) = barC c := by unfold kcell; rw [ksem_bar]

theorem rec_dma (c : Dev nD) (q : DmaSem sig) (h : 4 ≤ q.val) : recs (F := F) m ⊢ cellOk ER (sched (F := F) m) ((c : Thread nD τ), .dma q) := by
  rw [← kcell_dma c q h]; exact rec_at m _
theorem rec_bar (c : Dev nD) : recs (F := F) m ⊢ cellOk ER (sched (F := F) m) (barC c) := by
  rw [← kcell_bar c]; exact rec_at m _

theorem rec_xs (c : Dev nD) (i s : ℕ) : recs (F := F) m ⊢ cellOk ER (sched (F := F) m) (xsC c i s) := rec_dma m c _ (by rw [xsS_val]; unfold xsN; omega)
theorem rec_xr (c : Dev nD) (i s : ℕ) : recs (F := F) m ⊢ cellOk ER (sched (F := F) m) (xrC c i s) := rec_dma m c _ (by rw [xrS_val]; unfold xrN; omega)
theorem rec_ps (c : Dev nD) (i s : ℕ) : recs (F := F) m ⊢ cellOk ER (sched (F := F) m) (psC c i s) := rec_dma m c _ (by rw [psS_val]; unfold psN; omega)
theorem rec_pr (c : Dev nD) (i s : ℕ) : recs (F := F) m ⊢ cellOk ER (sched (F := F) m) (prC c i s) := rec_dma m c _ (by rw [prS_val]; unfold prN; omega)

/-! ## Steps' rules -/

/-- The staged operands, held throughout. -/
def ops (c : Dev nD) : sProp 𝕄 :=
  iprop((((c : Thread nD τ).loc cc0_stg0_0) ↦{fullShare} xstg m c) ∗ (((c : Thread nD τ).loc cc0_stg1_0) ↦{fullShare} astg m c)
    ∗ (((c : Thread nD τ).loc cc0_stg2_0) ↦{fullShare} bstg m c))
def Thr (c : Dev nD) (n : ℕ) : sProp 𝕄 := iprop((∃ W, owes (c : Thread nD τ) (O c n) W) ∗ ops m c)

/-- `p` turns `A` into `B`, paying what is due from `n` up to `n'`. -/
def Tri (c : Dev nD) {α : Type} (p : KP F α) (A : sProp 𝕄) (B : α → sProp 𝕄) (n n' : ℕ) : Prop :=
  ∀ Q : α → sProp 𝕄, iprop(ctx m ∗ A ∗ Thr m c n)
    ⊢ iprop((∀ v, B v -∗ Thr m c n' -∗ Q v) -∗ wp frame (wpE (defs₀ (F := F)) 𝒱₀ (c : Thread nD τ) none) Set.univ p Q)

section Rules

variable {m} {c : Dev nD} {α β : Type} {p : KP F α} {A A' R : sProp (MT nD τ sig Unit (Elt F) ℕ UU ℕ)}
  {B B' : α → sProp (MT nD τ sig Unit (Elt F) ℕ UU ℕ)} {C : β → sProp (MT nD τ sig Unit (Elt F) ℕ UU ℕ)} {n n' n'' : ℕ}

theorem Tri.pre (hA : A ⊢ A') (h : Tri m c p A' B n n') : Tri m c p A B n n' := fun Q => by
  iintro ⟨#Hc, HA, HT⟩ Hk
  ihave HA := hA $$ HA
  iapply (h Q) $$ [HA HT]
  · isplitr; · iexact Hc
    isplitl [HA]; · iexact HA
    iexact HT
  iexact Hk

theorem Tri.post (h : Tri m c p A B n n') (hB : ∀ v, B v ⊢ B' v) : Tri m c p A B' n n' := fun Q => by
  iintro H Hk
  iapply (h Q) $$ H
  iintro %v HB HT
  ispecialize Hk $$ %v
  ihave HB := (hB v) $$ HB
  iapply Hk $$ HB HT

theorem Tri.frame (R : sProp 𝕄) (h : Tri m c p A B n n') : Tri m c p iprop(A ∗ R) (fun v => iprop(B v ∗ R)) n n' := fun Q => by
  iintro ⟨#Hc, ⟨HA, HR⟩, HT⟩ Hk
  iapply (h Q) $$ [HA HT]
  · isplitr; · iexact Hc
    isplitl [HA]; · iexact HA
    iexact HT
  iintro %v HB HT
  ispecialize Hk $$ %v
  iapply Hk $$ [HB HR] HT
  isplitl [HB]; · iexact HB
  iexact HR

theorem Tri.bind {k : α → KP F β} (h : Tri m c p A B n n') (hk : ∀ v, Tri m c (k v) (B v) C n' n'') : Tri m c (p >>= k) A C n n'' := fun Q => by
  rw [wp_bind]
  iintro ⟨#Hc, HA, HT⟩ Hk
  iapply (h _) $$ [HA HT]
  · isplitr; · iexact Hc
    isplitl [HA]; · iexact HA
    iexact HT
  iintro %v HB HT
  iapply (hk v Q) $$ [HB HT]
  · isplitr; · iexact Hc
    isplitl [HB]; · iexact HB
    iexact HT
  iexact Hk

/-- The same with the first step's frame. -/
theorem Tri.step {k : α → KP F β} (R : sProp 𝕄) (h : Tri m c p A B n n') (e : A' = iprop(A ∗ R))
    (hk : ∀ v, Tri m c (k v) iprop(B v ∗ R) C n' n'') : Tri m c (p >>= k) A' C n n'' :=
  e ▸ (h.frame R).bind hk

theorem Tri.pure {φ : Prop} (h : φ → Tri m c p A B n n') : Tri m c p iprop(⌜φ⌝ ∗ A) B n n' := fun Q => by
  iintro ⟨#Hc, ⟨%hφ, HA⟩, HT⟩ Hk
  iapply (h hφ Q) $$ [HA HT]
  · isplitr; · iexact Hc
    isplitl [HA]; · iexact HA
    iexact HT
  iexact Hk

theorem Tri.ex {γ : Type} {A : γ → sProp 𝕄} (h : ∀ x, Tri m c p (A x) B n n') : Tri m c p iprop(∃ x, A x) B n n' := fun Q => by
  iintro ⟨#Hc, ⟨%x, HA⟩, HT⟩ Hk
  iapply (h x Q) $$ [HA HT]
  · isplitr; · iexact Hc
    isplitl [HA]; · iexact HA
    iexact HT
  iexact Hk

theorem Tri.ret (v : α) : Tri m c (Pure.pure v : KP F α) (B v) B n n := fun Q => by
  iintro ⟨#Hc, HA, HT⟩ Hk
  rw [Prog.pure_eq_ret, wp_ret]; imodintro
  ispecialize Hk $$ %v
  iapply Hk $$ HA HT

theorem Tri.nil : Tri m c (runL (F := F) []) (iprop(emp)) (fun _ => iprop(emp)) n n := Tri.ret (α := PUnit) (B := fun _ => iprop(emp)) PUnit.unit

theorem Tri.one {p : KP F PUnit} {A B : sProp 𝕄} (h : Tri m c p A (fun _ => B) n n') : Tri m c (runL [p]) A (fun _ => B) n n' :=
  h.bind fun _ => Tri.ret (α := PUnit) (B := fun _ => B) PUnit.unit

theorem runL_append (ps qs : List (KP F PUnit)) : runL (ps ++ qs) = runL ps >>= fun _ => runL qs := by
  induction ps with
  | nil => rfl
  | cons p ps ih =>
    show (p >>= fun _ => runL (ps ++ qs)) = (p >>= fun _ => runL ps) >>= fun _ => runL qs
    rw [bind_assoc, ih]

/-- Lists of steps one after the other, and on disjoint resources. -/
theorem Tri.seq {ps qs : List (KP F PUnit)} {A B C : sProp 𝕄} (h₁ : Tri m c (runL ps) A (fun _ => B) n n')
    (h₂ : Tri m c (runL qs) B (fun _ => C) n' n'') : Tri m c (runL (ps ++ qs)) A (fun _ => C) n n'' := by
  rw [runL_append]; exact h₁.bind fun _ => h₂

theorem Tri.par {ps qs : List (KP F PUnit)} {A₁ B₁ A₂ B₂ : sProp 𝕄} (h₁ : Tri m c (runL ps) A₁ (fun _ => B₁) n n')
    (h₂ : Tri m c (runL qs) A₂ (fun _ => B₂) n' n'') : Tri m c (runL (ps ++ qs)) iprop(A₁ ∗ A₂) (fun _ => iprop(B₁ ∗ B₂)) n n'' :=
  (h₁.frame A₂).seq (((h₂.frame B₁).pre BI.sep_comm).post fun _ => BI.sep_comm)

/-- A step for each of the four pipes. -/
theorem Tri.each {f : ℕ → KP F PUnit} {A B : ℕ → sProp 𝕄} (N : ℕ → ℕ) (h : ∀ i, i < 4 → Tri m c (f i) (A i) (fun _ => B i) (N i) (N (i + 1))) :
    Tri m c (runL (each f)) (bigSep (Finset.range 4) A) (fun _ => bigSep (Finset.range 4) B) (N 0) (N 4) := by
  rw [bigSep_range4, bigSep_range4]
  exact Tri.par (Tri.one (h 0 (by decide))) (Tri.par (Tri.one (h 1 (by decide))) (Tri.par (Tri.one (h 2 (by decide))) (Tri.one (h 3 (by decide)))))

/-- Lists of steps for each number of a range. -/
theorem Tri.flat (f : ℕ → List (KP F PUnit)) {A B : ℕ → sProp 𝕄} (N : ℕ → ℕ) (a k : ℕ)
    (h : ∀ s, s < k → Tri m c (runL (f (a + s))) (A s) (fun _ => B s) (N s) (N (s + 1))) :
    Tri m c (runL ((List.range' a k).flatMap f)) (bigSep (Finset.range k) A) (fun _ => bigSep (Finset.range k) B) (N 0) (N k) := by
  induction k with
  | zero => rw [Finset.range_zero, bigSep_empty, bigSep_empty]; exact Tri.nil
  | succ k ih =>
    rw [List.range'_concat, List.flatMap_append, bigSep_range_succ, bigSep_range_succ, Nat.one_mul]
    have := (ih fun s hs => h s (by omega)).par (h k (by omega))
    rw [List.flatMap_singleton]
    exact (this.pre BI.sep_comm).post fun _ => BI.sep_comm

end Rules

/-! ## One operation -/

section Ops

variable (c : Dev nD)

abbrev atP (g : GSem nD τ sig) : sProp 𝕄 := atPos ER g 0 ∅ 0
abbrev zero (g : GSem nD τ sig) : sProp 𝕄 := semVal g 0

/-- What a transfer of step `s` takes beside its source, and what the waits for its two ends take. -/
def SX (i s : ℕ) : sProp 𝕄 :=
  iprop(gAny (F := F) (tgt i c) i (s + 1) ∗ atP (xsC c i s) ∗ dutyTok ER (xsC c i s) 0 false ∗ dutyTok ER (xrC (tgt i c) i s) 0 false)
def SP (i s : ℕ) : sProp 𝕄 :=
  iprop(pAny (F := F) (tgt i c) i (s + 1) ∗ atP (psC c i s) ∗ dutyTok ER (psC c i s) 0 false ∗ dutyTok ER (prC (tgt i c) i s) 0 false)
def RX (i s : ℕ) : sProp 𝕄 := iprop(atP (xrC c i s) ∗ cred (tallyAt (xrC c i s) () NX))
def RP (i s : ℕ) : sProp 𝕄 := iprop(atP (prC c i s) ∗ cred (tallyAt (prC c i s) () NP))
def WX (i s : ℕ) : sProp 𝕄 := iprop(atP (xsC c i s) ∗ cred (tallyAt (xsC c i s) () NX))
def WP (i s : ℕ) : sProp 𝕄 := iprop(atP (psC c i s) ∗ cred (tallyAt (psC c i s) () NP))
/-- The half of a sent block the device keeps reading. -/
def hG (i s : ℕ) : sProp 𝕄 := gO c i s fullShare.right (XV m i s c)

variable {i s : ℕ} (hi : i < 4)

include hi in
theorem sendX_tri (hs : s < 15) : Tri m c (sendX c i s) iprop(gO c i s fullShare (XV m i s c) ∗ SX (F := F) c i s)
    (fun _ => iprop(WX (F := F) c i s ∗ hG m c i s)) (2 * (4 * s + i)) (2 * (4 * s + i) + 1) := fun Q => by
  unfold sendX
  unfold SX gAny Thr ctx WX hG
  rw [← devT_eq i c]
  iintro ⟨⟨#HR, #HL⟩, ⟨Hg, ⟨%w, Hd⟩, Hat, Ht1, Ht2⟩, ⟨%W, HO⟩, Hops⟩ Hk
  ihave Hg := (show gO c i s fullShare (XV m i s c) ⊢ iprop(gO c i s fullShare.left (XV m i s c) ∗ gO c i s fullShare.right (XV m i s c)) from (owns_halves _ _ _ _).1) $$ Hg
  icases Hg with ⟨Hl, Hh⟩
  unfold gO
  have hd₁ : false ∈ (sched (F := F) m).duties (xsC c i s) 0 := by rw [duties_dma m c _ (live_xs hi)]; exact Finset.mem_singleton_self _
  have hd₂ : false ∈ (sched (F := F) m).duties (xrC (devT i c) i s) 0 := by rw [duties_dma m (devT i c) _ (live_xr hi)]; exact Finset.mem_singleton_self _
  have hN : (gS i (s + 1)).view.amount (.dma (xrS i s).sem) = NX := rfl
  have hO : O c (2 * (4 * s + i)) = O c (2 * (4 * s + i) + 1) + tallyAt (xrC (devT i c) i s) () NX := by
    rw [O_succ c (by omega), due_x c hi hs, devT_eq]
  have hp₁ : (owns (c : Thread nD τ) (gS i s) fullShare.left (XV m i s c) : sProp 𝕄) ⊢ (sched (F := F) m).payload (xsC c i s) 0 false := by
    rw [pay_xs m c hi hs]; exact .rfl
  have hp₂ : (owns (devT i c : Thread nD τ) (gS i (s + 1)) fullShare (XV m i s c) : sProp 𝕄) ⊢ (sched (F := F) m).payload (xrC (devT i c) i s) 0 false := by
    rw [pay_xr m (devT i c) hi hs, devT_eq]; unfold xrPay gO
    rw [show XV m i (s + 1) (tgt i c) = XV m i s c from congrArg (XV m i s) (src_tgt i c)]
  iapply (wp_send_owns 𝒱₀ ER (sched (F := F) m) (c : Thread nD τ) hd₁ hd₂
      NX hN (amount_xs m c hi false) (amount_xr m (devT i c) hi false) (O c (2 * (4 * s + i) + 1))
      hO (W := W) (v := XV m i s c) (w := w) (q := fullShare.left) hp₁ hp₂) $$ [Hl Hd HO Ht1 Ht2]
  · isplitr; · iapply (rec_xs m c i s); iexact HR
    isplitr; · iapply (rec_xr m (devT i c) i s); iexact HR
    isplitl [Hl]; · iexact Hl
    isplitl [Hd]; · iexact Hd
    isplitl [HO]; · iexact HO
    isplitl [Ht1]; · iexact Ht1
    iexact Ht2
  iintro ⟨Hc, HO⟩
  rw [wp_ret]; imodintro
  ispecialize Hk $$ %PUnit.unit
  iapply Hk $$ [Hat Hc Hh] [HO Hops]
  · isplitl [Hat Hc]
    · isplitl [Hat]; · iexact Hat
      iexact Hc
    iexact Hh
  isplitl [HO]; · iexists W; iexact HO
  iexact Hops

include hi in
theorem sendP_tri (h1 : 1 ≤ s) (hs : s < 16) : Tri m c (sendP c i s) iprop(pO c i s (AV m i s c) ∗ SP (F := F) c i s)
    (fun _ => WP (F := F) c i s) (2 * (4 * s + i) + 1) (2 * (4 * s + i) + 2) := fun Q => by
  unfold sendP
  unfold SP pAny Thr ctx WP
  rw [← devT_eq i c]
  iintro ⟨⟨#HR, #HL⟩, ⟨Hg, ⟨%w, Hd⟩, Hat, Ht1, Ht2⟩, ⟨%W, HO⟩, Hops⟩ Hk
  unfold pO
  have hd₁ : false ∈ (sched (F := F) m).duties (psC c i s) 0 := by rw [duties_dma m c _ (live_ps hi h1 hs)]; exact Finset.mem_singleton_self _
  have hd₂ : false ∈ (sched (F := F) m).duties (prC (devT i c) i s) 0 := by rw [duties_dma m (devT i c) _ (live_pr hi h1 hs)]; exact Finset.mem_singleton_self _
  have hN : (pS i (s + 1)).view.amount (.dma (prS i s).sem) = NP := rfl
  have hO : O c (2 * (4 * s + i) + 1) = O c (2 * (4 * s + i) + 2) + tallyAt (prC (devT i c) i s) () NP := by
    rw [O_succ c (by omega), due_a c hi h1, devT_eq]
  have hp₁ : (owns (c : Thread nD τ) (pS i s) fullShare (AV m i s c) : sProp 𝕄) ⊢ (sched (F := F) m).payload (psC c i s) 0 false := by
    rw [pay_ps m c hi hs]; exact .rfl
  have hp₂ : (owns (devT i c : Thread nD τ) (pS i (s + 1)) fullShare (AV m i s c) : sProp 𝕄) ⊢ (sched (F := F) m).payload (prC (devT i c) i s) 0 false := by
    rw [pay_pr m (devT i c) hi hs, devT_eq]; unfold prPay pO; rw [src_tgt]
  iapply (wp_send_owns 𝒱₀ ER (sched (F := F) m) (c : Thread nD τ) hd₁ hd₂
      NP hN (amount_ps m c hi false) (amount_pr m (devT i c) hi false) (O c (2 * (4 * s + i) + 2))
      hO (W := W) (v := AV m i s c) (w := w) (q := fullShare) hp₁ hp₂) $$ [Hg Hd HO Ht1 Ht2]
  · isplitr; · iapply (rec_ps m c i s); iexact HR
    isplitr; · iapply (rec_pr m (devT i c) i s); iexact HR
    isplitl [Hg]; · iexact Hg
    isplitl [Hd]; · iexact Hd
    isplitl [HO]; · iexact HO
    isplitl [Ht1]; · iexact Ht1
    iexact Ht2
  iintro ⟨Hc, HO⟩
  rw [wp_ret]; imodintro
  ispecialize Hk $$ %PUnit.unit
  iapply Hk $$ [Hat Hc] [HO Hops]
  · isplitl [Hat]; · iexact Hat
    iexact Hc
  isplitl [HO]; · iexists W; iexact HO
  iexact Hops

/-- A wait for a transfer's cell, below all that is owed. -/
theorem wait_tri {w : TpuEff nD τ sig (Elt F) Λ₀ .tc PUnit} {q : DmaSem sig} {N n : ℕ}
    (hw : ∀ K : PUnit → sProp 𝕄, wpE' (defs₀ (F := F)) 𝒱₀ (c : Thread nD τ) none [] Set.univ w K = waitSpec (c : Thread nD τ) Set.univ (.dma q) N K)
    (hq : live q.val) (hN : (sched (F := F) m).amount ((c : Thread nD τ), .dma q) 0 false = N) (hl : lvq q.val < 2 + n)
    {P : sProp 𝕄} (hP : (sched (F := F) m).payload ((c : Thread nD τ), .dma q) 0 false = P) :
    Tri m c (Prog.lift w : KP F PUnit) iprop(atP (F := F) ((c : Thread nD τ), .dma q) ∗ cred (tallyAt ((c : Thread nD τ), .dma q) () N))
      (fun _ => iprop(zero (F := F) ((c : Thread nD τ), .dma q) ∗ P)) n n := fun Q => by
  subst hP
  unfold Thr ctx
  iintro ⟨⟨#HR, #HL⟩, ⟨Hat, Hc⟩, ⟨%W, HO⟩, Hops⟩ Hk
  iapply (wp_wait_close 𝒱₀ ER (sched (F := F) m) (c : Thread nD τ) hw (duties_dma m c q hq) (duties_later m _) (not_unitless m _) hN (W := W)) $$ [Hat Hc HO]
  · isplitr; · iapply (rec_dma m c q hq.1); iexact HR
    isplitl [Hc]; · iexact Hc
    isplitl [HO]; · iexact HO
    isplitr; · iapply (mayWait c (.dma q) n hl); iexact HL
    iexact Hat
  iintro ⟨HO, Hz, Hp⟩
  rw [wp_ret]; imodintro
  ispecialize Hk $$ %PUnit.unit
  iapply Hk $$ [Hz Hp] [HO Hops]
  · isplitl [Hz]; · iexact Hz
    iexact Hp
  isplitl [HO]; · iexists _; iexact HO
  iexact Hops

include hi
theorem waitXR_tri (hs : s < 15) {n : ℕ} (hn : 2 * (4 * s + i) < n) : Tri m c (waitXR i s) (RX (F := F) c i s)
    (fun _ => iprop(zero (F := F) (xrC c i s) ∗ gO c i (s + 1) fullShare (XV m i (s + 1) c))) n n :=
  wait_tri m c (by intro K; exact wpE_waitDma2_eq 𝒱₀ (c : Thread nD τ) none Set.univ K) (live_xr hi) (amount_xr m c hi false)
    (by have := lv_xr c hi hs; change lvq _ = _ at this; omega) (pay_xr m c hi hs false)
theorem waitPR_tri (h1 : 1 ≤ s) (hs : s < 16) {n : ℕ} (hn : 2 * (4 * s + i) + 1 < n) : Tri m c (waitPR i s) (RP (F := F) c i s)
    (fun _ => iprop(zero (F := F) (prC c i s) ∗ pO c i (s + 1) (AV m i s (src i c)))) n n :=
  wait_tri m c (by intro K; exact wpE_waitDma2_eq 𝒱₀ (c : Thread nD τ) none Set.univ K) (live_pr hi h1 hs) (amount_pr m c hi false)
    (by have := lv_pr c hi hs; change lvq _ = _ at this; omega) (pay_pr m c hi hs false)
theorem waitXS_tri (hs : s < 15) {n : ℕ} : Tri m c (waitXS i s) iprop(WX (F := F) c i s ∗ hG m c i s)
    (fun _ => iprop(zero (F := F) (xsC c i s) ∗ gAny (F := F) c i s)) n n :=
  have h : Tri m c (waitXS i s) (WX (F := F) c i s) (fun _ => iprop(zero (F := F) (xsC c i s) ∗ xsPay m c i s)) n n :=
    wait_tri m c (by intro K; exact wpE_waitDma2_eq 𝒱₀ (c : Thread nD τ) none Set.univ K) (live_xs hi) (amount_xs m c hi false)
      (by rw [xsS_val]; unfold lvq xsN; rw [if_pos (by omega)]; omega) (pay_xs m c hi hs false)
  (h.frame (hG m c i s)).post fun _ => by
      unfold xsPay hG gAny
      rw [sepA]
      iintro ⟨Hz, Hg⟩
      isplitl [Hz]; · iexact Hz
      iexists (XV m i s c)
      iapply (show iprop(gO c i s fullShare.left (XV m i s c) ∗ gO c i s fullShare.right (XV m i s c)) ⊢ gO c i s fullShare (XV m i s c) from (owns_halves _ _ _ _).2)
      iexact Hg
theorem waitPS_tri (h1 : 1 ≤ s) (hs : s < 16) {n : ℕ} : Tri m c (waitPS i s) (WP (F := F) c i s)
    (fun _ => iprop(zero (F := F) (psC c i s) ∗ pAny (F := F) c i s)) n n :=
  have h : Tri m c (waitPS i s) (WP (F := F) c i s) (fun _ => iprop(zero (F := F) (psC c i s) ∗ psPay m c i s)) n n :=
    wait_tri m c (by intro K; exact wpE_waitDma2_eq 𝒱₀ (c : Thread nD τ) none Set.univ K) (live_ps hi h1 hs) (amount_ps m c hi false)
      (by rw [psS_val]; unfold lvq psN; rw [if_neg (by omega), if_neg (by omega), if_pos (by omega)]; omega) (pay_ps m c hi hs false)
  h.post fun _ => by
      unfold psPay pAny
      iintro ⟨Hz, Hg⟩
      isplitl [Hz]; · iexact Hz
      iexists _; iexact Hg
omit hi

/-- Loads and stores. -/
theorem ldG_tri (q : PosShare TreeShare) (v : FVec F S128x512 .f32) (n : ℕ) :
    Tri m c (ldG i s) (gO c i s q v) (fun u => iprop(⌜flat u = v⌝ ∗ gO c i s q v)) n n := fun Q => by
  unfold gO
  iintro ⟨-, Hg, HT⟩ Hk
  iapply (wp_load_sq 𝒱₀ (c : Thread nD τ) gM (gR i s) (fun _ => rfl) squeezes_S1x1x128x512_S128x512 shapeCasts_S1x1x128x512_S128x512 q v) $$ Hg
  iintro %u %hu Hg
  rw [wp_ret]; imodintro
  ispecialize Hk $$ %u
  iapply Hk $$ [Hg] HT
  isplitr; · ipureintro; exact hu
  iexact Hg
theorem ldP_tri (v : FVec F S128x512 .f32) (n : ℕ) :
    Tri m c (ldP i s) (pO c i s v) (fun u => iprop(⌜flat u = v⌝ ∗ pO c i s v)) n n := fun Q => by
  unfold pO
  iintro ⟨-, Hg, HT⟩ Hk
  iapply (wp_load_sq 𝒱₀ (c : Thread nD τ) pM (pR i s) (fun _ => rfl) squeezes_S1x1x128x512_S128x512 shapeCasts_S1x1x128x512_S128x512 fullShare v) $$ Hg
  iintro %u %hu Hg
  rw [wp_ret]; imodintro
  ispecialize Hk $$ %u
  iapply Hk $$ [Hg] HT
  isplitr; · ipureintro; exact hu
  iexact Hg
theorem stG_tri (v w : FVec F S128x512 .f32) (n : ℕ) : Tri m c (stG i s (unflat w)) (gO c i s fullShare v) (fun _ => gO c i s fullShare w) n n := fun Q => by
  unfold gO
  iintro ⟨-, Hg, HT⟩ Hk
  iapply (wp_store_sq 𝒱₀ (c : Thread nD τ) gM (gR i s) (fun _ => rfl) squeezes_S1x1x128x512_S128x512 shapeCasts_S1x1x128x512_S128x512 v) $$ Hg
  iintro Hg
  rw [wp_ret]; imodintro
  ispecialize Hk $$ %PUnit.unit
  iapply Hk $$ [Hg] HT
  rw [show shapeCast S128x512 (unflat w) shapeCasts_S1x1x128x512_S128x512 = w from by unfold unflat; rw [shapeCast_shapeCast]]
  iexact Hg
theorem stP_tri (v w : FVec F S128x512 .f32) (n : ℕ) : Tri m c (stP i s (unflat w)) (pO c i s v) (fun _ => pO c i s w) n n := fun Q => by
  unfold pO
  iintro ⟨-, Hg, HT⟩ Hk
  iapply (wp_store_sq 𝒱₀ (c : Thread nD τ) pM (pR i s) (fun _ => rfl) squeezes_S1x1x128x512_S128x512 shapeCasts_S1x1x128x512_S128x512 v) $$ Hg
  iintro Hg
  rw [wp_ret]; imodintro
  ispecialize Hk $$ %PUnit.unit
  iapply Hk $$ [Hg] HT
  rw [show shapeCast S128x512 (unflat w) shapeCasts_S1x1x128x512_S128x512 = w from by unfold unflat; rw [shapeCast_shapeCast]]
  iexact Hg

/-- Pipe `i`'s rows of the output's staging buffer. -/
def oO (i : ℕ) (v : FVec F S128x512 .f32) : sProp 𝕄 := owns (c : Thread nD τ) (oM.slice (xR i) (fun _ => rfl)) fullShare v
def oAny (i : ℕ) : sProp 𝕄 := iprop(∃ v, oO (F := F) c i v)
theorem ldO_tri (v : FVec F S128x512 .f32) (n : ℕ) : Tri m c (ldO i) (oO c i v) (fun _ => oO c i v) n n := fun Q => by
  unfold oO
  iintro ⟨-, Hg, HT⟩ Hk
  iapply (wp_load_slice 𝒱₀ (c : Thread nD τ) oM (xR i) (fun _ => rfl) fullShare v) $$ Hg
  iintro Hg
  rw [wp_ret]; imodintro
  ispecialize Hk $$ %v
  iapply Hk $$ [Hg] HT
  iexact Hg
theorem stO_tri (v w : FVec F S128x512 .f32) (n : ℕ) : Tri m c (stO i w) (oO c i v) (fun _ => oO c i w) n n := fun Q => by
  unfold oO
  iintro ⟨-, Hg, HT⟩ Hk
  iapply (wp_store_slice 𝒱₀ (c : Thread nD τ) oM (xR i) (fun _ => rfl) v) $$ Hg
  iintro Hg
  rw [wp_ret]; imodintro
  ispecialize Hk $$ %PUnit.unit
  iapply Hk $$ [Hg] HT
  iexact Hg

theorem hz : (![0, 0] : Fin 2 → ℕ) = fun _ => 0 := funext fun a => by fin_cases a <;> rfl
theorem ldX_tri (n : ℕ) : Tri m c (ldX i) iprop(emp) (fun u => iprop(⌜same u = XV m i 0 c⌝)) n n := fun Q => by
  unfold Thr ops
  iintro ⟨-, -, HO, Hx, Hab⟩ Hk
  iapply (wp_load 𝒱₀ (c : Thread nD τ) none Set.univ (m := xM) (Finset.subset_univ _)) $$ Hx; iintro Hx
  rw [wp_ret]; imodintro
  ispecialize Hk $$ %(xM.view.readAt (Elt F) (xR i).toLoadRect (xstg m c))
  iapply Hk $$ [] [HO Hx Hab]
  · ipureintro; rfl
  isplitl [HO]; · iexact HO
  isplitl [Hx]; · iexact Hx
  iexact Hab
theorem ldA_tri (n : ℕ) : Tri m c ldA iprop(emp) (fun u => iprop(⌜u = astg m c⌝)) n n := fun Q => by
  unfold Thr ops
  iintro ⟨-, -, HO, Hx, Ha, Hb⟩ Hk
  iapply (wp_load 𝒱₀ (c : Thread nD τ) none Set.univ (m := aM) (Finset.subset_univ _)) $$ Ha; iintro Ha
  rw [wp_ret]; imodintro
  rw [show aM.view.readAt (Elt F) _ (astg m c) = astg m c from Memref.readAt_unit_zero (Elt F) cc0_stg1_0 hz _ _]
  ispecialize Hk $$ %(astg m c)
  iapply Hk $$ [] [HO Hx Ha Hb]
  · ipureintro; rfl
  isplitl [HO]; · iexact HO
  isplitl [Hx]; · iexact Hx
  isplitl [Ha]; · iexact Ha
  iexact Hb
theorem ldB_tri (n : ℕ) : Tri m c ldB iprop(emp) (fun u => iprop(⌜u = bstg m c⌝)) n n := fun Q => by
  unfold Thr ops
  iintro ⟨-, -, HO, Hx, Ha, Hb⟩ Hk
  iapply (wp_load 𝒱₀ (c : Thread nD τ) none Set.univ (m := bM) (Finset.subset_univ _)) $$ Hb; iintro Hb
  rw [wp_ret]; imodintro
  rw [show bM.view.readAt (Elt F) _ (bstg m c) = bstg m c from Memref.readAt_unit_zero (Elt F) cc0_stg2_0 hz _ _]
  ispecialize Hk $$ %(bstg m c)
  iapply Hk $$ [] [HO Hx Ha Hb]
  · ipureintro; rfl
  isplitl [HO]; · iexact HO
  isplitl [Hx]; · iexact Hx
  isplitl [Ha]; · iexact Ha
  iexact Hb

/-! ## The steps -/

theorem empSep (A : sProp 𝕄) : A = iprop(emp ∗ A) := by rw [sepC, sepE]

/-- A step without its returned value. -/
theorem pay0 {α : Type} {p : KP F α} {A B : sProp 𝕄} (k : ℕ) (hk : k < 128) (h0 : due c k = 0) (h : Tri m c p A (fun _ => B) (k + 1) (k + 1)) :
    Tri m c p A (fun _ => B) k (k + 1) := fun Q => by
  have e : Thr m c k = Thr m c (k + 1) := by unfold Thr; rw [O_succ c hk, h0, add_zero]
  rw [e]; exact h Q

theorem stage_tri (hi : i < 4) : Tri m c (stage c i) iprop(gAny (F := F) c i 0 ∗ SX (F := F) c i 0)
    (fun _ => iprop(WX (F := F) c i 0 ∗ hG m c i 0)) (2 * (4 * 0 + i)) (2 * (4 * 0 + i) + 1) := by
  unfold stage
  refine Tri.step _ (ldX_tri m c _) (empSep _) fun u => ?_
  refine Tri.pure fun hu => ?_
  unfold gAny
  refine Tri.pre (A' := iprop(∃ v, gO c i 0 fullShare v ∗ SX (F := F) c i 0)) ?_ (Tri.ex fun v => ?_)
  · iintro ⟨⟨%v, H⟩, H'⟩; iexists v; isplitl [H]; · iexact H
    iexact H'
  refine Tri.step _ (ldG_tri m c fullShare v _) rfl fun _ => ?_
  rw [sepA]; refine Tri.pure fun _ => ?_
  refine Tri.step _ (stG_tri m c v (same u) _) rfl fun _ => ?_
  rw [hu]
  exact sendX_tri m c hi (by decide)

/-- The part after the transfer: a block's term of the sum. -/
theorem comp_tri (q : PosShare TreeShare) (v : FVec F S128x512 .f32) (n : ℕ) :
    Tri m c (comp i s) iprop(gO c i s q v ∗ pAny (F := F) c i s) (fun _ => iprop(gO c i s q v ∗ pO c i s (term m c v))) n n := by
  unfold comp
  refine Tri.step _ (ldG_tri m c q v _) rfl fun u => ?_
  rw [sepA]; refine Tri.pure fun hu => ?_
  refine Tri.step _ (ldA_tri m c _) (empSep _) fun a => ?_
  refine Tri.pure fun ha => ?_
  refine Tri.step _ (ldB_tri m c _) (empSep _) fun b => ?_
  refine Tri.pure fun hb => ?_
  subst hu ha hb
  refine Tri.pre (A' := iprop(∃ w, pO c i s w ∗ gO c i s q (flat u))) ?_ (Tri.ex fun w => ?_)
  · unfold pAny; iintro ⟨H', ⟨%w, H⟩⟩; iexists w; isplitl [H]; · iexact H
    iexact H'
  refine Tri.step _ (ldP_tri m c w _) rfl fun _ => ?_
  rw [sepA]; refine Tri.pure fun _ => ?_
  exact ((stP_tri m c w _ n).frame _).post fun _ => BI.sep_comm

theorem compAdd_tri (hi : i < 4) (h1 : 1 ≤ s) (hs : s < 16) (q : PosShare TreeShare) (v : FVec F S128x512 .f32) {n : ℕ} (hn : 2 * (4 * s + i) + 1 < n) :
    Tri m c (compAdd i s) iprop(gO c i (s + 1) q v ∗ RP (F := F) c i s)
      (fun _ => iprop(gO c i (s + 1) q v ∗ zero (F := F) (prC c i s) ∗ pO c i (s + 1) (addf (AV m i s (src i c)) (term m c v)))) n n := by
  unfold compAdd
  refine Tri.step _ (ldG_tri m c q v _) rfl fun u => ?_
  rw [sepA]; refine Tri.pure fun hu => ?_
  refine Tri.step _ (ldA_tri m c _) (empSep _) fun a => ?_
  refine Tri.pure fun ha => ?_
  refine Tri.step _ (ldB_tri m c _) (empSep _) fun b => ?_
  refine Tri.pure fun hb => ?_
  subst hu ha hb
  refine Tri.step _ (waitPR_tri m c hi h1 hs hn) (sepC _ _) fun _ => ?_
  refine Tri.step (iprop(gO c i (s + 1) q (flat u) ∗ zero (F := F) (prC c i s))) (ldP_tri m c (AV m i s (src i c)) _) (by ac_rfl) fun w => ?_
  rw [sepA]; refine Tri.pure fun hw => ?_
  refine Tri.step _ (ldP_tri m c (AV m i s (src i c)) _) rfl fun _ => ?_
  rw [sepA]; refine Tri.pure fun _ => ?_
  rw [← hw]
  exact ((stP_tri m c _ _ n).frame _).post fun _ => Entails.of_eq (by unfold term; ac_rfl)

theorem first_tri (hi : i < 4) : Tri m c (first c i) iprop(RX (F := F) c i 0 ∗ SX (F := F) c i 1 ∗ pAny (F := F) c i 1 ∗ SP (F := F) c i 1)
    (fun _ => iprop(zero (F := F) (xrC c i 0) ∗ WX (F := F) c i 1 ∗ hG m c i 1 ∗ WP (F := F) c i 1)) (2 * (4 * 1 + i)) (2 * (4 * 1 + i) + 2) := by
  unfold first
  refine Tri.step _ (waitXR_tri m c hi (by decide) (by omega)) rfl fun _ => ?_
  refine Tri.step (iprop(zero (F := F) (xrC c i 0) ∗ pAny (F := F) c i 1 ∗ SP (F := F) c i 1)) (sendX_tri m c hi (by decide)) (by ac_rfl) fun _ => ?_
  unfold hG
  refine Tri.step (iprop(zero (F := F) (xrC c i 0) ∗ WX (F := F) c i 1 ∗ SP (F := F) c i 1)) (comp_tri m c fullShare.right (XV m i 1 c) _) (by ac_rfl) fun _ => ?_
  refine Tri.pre (Entails.of_eq ?_) (((sendP_tri m c hi (le_refl 1) (by decide)).frame
    (iprop(zero (F := F) (xrC c i 0) ∗ WX (F := F) c i 1 ∗ gO c i 1 fullShare.right (XV m i 1 c)))).post fun _ => Entails.of_eq (by ac_rfl))
  rw [show term m c (XV m i 1 c) = AV m i 1 c from rfl]; ac_rfl

theorem mid_tri (hi : i < 4) (h1 : 1 ≤ s) (hs : s < 14) :
    Tri m c (mid c s i) iprop(RX (F := F) c i s ∗ SX (F := F) c i (s + 1) ∗ RP (F := F) c i s ∗ SP (F := F) c i (s + 1))
      (fun _ => iprop(zero (F := F) (xrC c i s) ∗ zero (F := F) (prC c i s) ∗ WX (F := F) c i (s + 1) ∗ hG m c i (s + 1) ∗ WP (F := F) c i (s + 1)))
      (2 * (4 * (s + 1) + i)) (2 * (4 * (s + 1) + i) + 2) := by
  unfold mid
  refine Tri.step _ (waitXR_tri m c hi (by omega) (by omega)) rfl fun _ => ?_
  refine Tri.step (iprop(zero (F := F) (xrC c i s) ∗ RP (F := F) c i s ∗ SP (F := F) c i (s + 1))) (sendX_tri m c hi (by omega)) (by ac_rfl) fun _ => ?_
  unfold hG
  refine Tri.step (iprop(zero (F := F) (xrC c i s) ∗ WX (F := F) c i (s + 1) ∗ SP (F := F) c i (s + 1)))
    (compAdd_tri m c hi h1 (by omega) fullShare.right (XV m i (s + 1) c) (by omega)) (by ac_rfl) fun _ => ?_
  refine Tri.pre (Entails.of_eq ?_) (((sendP_tri m c hi (by omega) (by omega)).frame
    (iprop(zero (F := F) (xrC c i s) ∗ zero (F := F) (prC c i s) ∗ WX (F := F) c i (s + 1) ∗ gO c i (s + 1) fullShare.right (XV m i (s + 1) c)))).post
      fun _ => Entails.of_eq (by ac_rfl))
  obtain ⟨s, rfl⟩ : ∃ t, s = t + 1 := ⟨s - 1, by omega⟩
  rw [show addf (AV m i (s + 1) (src i c)) (term m c (XV m i (s + 1 + 1) c)) = AV m i (s + 1 + 1) c from rfl]; ac_rfl

theorem last_tri (hi : i < 4) : Tri m c (last c i) iprop(RX (F := F) c i 14 ∗ RP (F := F) c i 14 ∗ SP (F := F) c i 15)
    (fun _ => iprop(zero (F := F) (xrC c i 14) ∗ zero (F := F) (prC c i 14) ∗ gAny (F := F) c i 15 ∗ WP (F := F) c i 15))
    (2 * (4 * 15 + i) + 1) (2 * (4 * 15 + i) + 2) := by
  unfold last
  refine Tri.step _ (waitXR_tri m c hi (by decide) (by omega)) rfl fun _ => ?_
  refine Tri.step (iprop(zero (F := F) (xrC c i 14) ∗ SP (F := F) c i 15))
    (compAdd_tri m c hi (by decide) (by decide) fullShare (XV m i 15 c) (by omega)) (by ac_rfl) fun _ => ?_
  refine Tri.pre (Entails.of_eq ?_) (((sendP_tri m c hi (by decide) (by decide)).frame
    (iprop(zero (F := F) (xrC c i 14) ∗ zero (F := F) (prC c i 14) ∗ gO c i 15 fullShare (XV m i 15 c)))).post fun _ => ?_)
  · rw [show addf (AV m i 14 (src i c)) (term m c (XV m i 15 c)) = AV m i 15 c from rfl]; ac_rfl
  · unfold gAny
    iintro ⟨Hw, Hx, Hp, Hg⟩
    isplitl [Hx]; · iexact Hx
    isplitl [Hp]; · iexact Hp
    isplitl [Hg]; · iexists _; iexact Hg
    iexact Hw

theorem fin_tri (hi : i < 4) : Tri m c (fin i) iprop(RP (F := F) c i 15 ∗ pO c i 0 (term m c (XV m i 0 c)) ∗ oAny (F := F) c i)
    (fun _ => iprop(zero (F := F) (prC c i 15) ∗ pAny (F := F) c i 16 ∗ pAny (F := F) c i 0 ∗ oO c i (res m c i))) 128 128 := by
  unfold fin
  refine Tri.step _ (waitPR_tri m c hi (by decide) (by decide) (by omega)) rfl fun _ => ?_
  refine Tri.step (iprop(zero (F := F) (prC c i 15) ∗ pO c i 0 (term m c (XV m i 0 c)) ∗ oAny (F := F) c i))
    (ldP_tri m c (AV m i 15 (src i c)) _) (by ac_rfl) fun u => ?_
  rw [sepA]; refine Tri.pure fun hu => ?_
  refine Tri.step (iprop(pO c i 16 (AV m i 15 (src i c)) ∗ zero (F := F) (prC c i 15) ∗ oAny (F := F) c i))
    (ldP_tri m c (term m c (XV m i 0 c)) _) (by ac_rfl) fun v => ?_
  rw [sepA]; refine Tri.pure fun hv => ?_
  rw [show res m c i = addf (flat u) (flat v) by rw [hu, hv]; rfl]
  refine Tri.pre (A' := iprop(∃ w, oO c i w ∗ pO c i 16 (AV m i 15 (src i c)) ∗ pO c i 0 (term m c (XV m i 0 c)) ∗ zero (F := F) (prC c i 15))) ?_ (Tri.ex fun w => ?_)
  · unfold oAny
    iintro ⟨H0, H16, Hz, ⟨%w, H⟩⟩
    iexists w
    isplitl [H]; · iexact H
    isplitl [H16]; · iexact H16
    isplitl [H0]; · iexact H0
    iexact Hz
  refine Tri.step _ (ldO_tri m c w _) rfl fun _ => ?_
  refine ((stO_tri m c w _ _).frame _).post fun _ => ?_
  unfold pAny
  iintro ⟨Ho, H16, H0, Hz⟩
  isplitl [Hz]; · iexact Hz
  isplitl [H16]; · iexists _; iexact H16
  isplitl [H0]; · iexists _; iexact H0
  iexact Ho

end Ops

end Cert.KernelIdealPf

end
-- ==== Proof.IRun.lean ====
/-
The whole body: the handshake, then the steps of the four pipes.
-/
module

public import proofs.«01_k».proof.Proof.IBody

@[expose] public section

noncomputable section

namespace Cert.KernelIdealPf

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The steps together -/

/-- What pipe `i` starts from, step by step. -/
def PreP (i : ℕ) : sProp 𝕄 :=
  iprop((gAny (F := F) c i 0 ∗ SX (F := F) c i 0) ∗ pAny (F := F) c i 0
    ∗ (RX (F := F) c i 0 ∗ SX (F := F) c i 1 ∗ pAny (F := F) c i 1 ∗ SP (F := F) c i 1)
    ∗ bigSep (Finset.range 13) (fun s => iprop(RX (F := F) c i (1 + s) ∗ SX (F := F) c i (1 + s + 1) ∗ RP (F := F) c i (1 + s) ∗ SP (F := F) c i (1 + s + 1)))
    ∗ (RX (F := F) c i 14 ∗ RP (F := F) c i 14 ∗ SP (F := F) c i 15)
    ∗ (RP (F := F) c i 15 ∗ oAny (F := F) c i))

/-- What is left of it before the last waits, -/
def MidP (i : ℕ) : sProp 𝕄 :=
  iprop((WX (F := F) c i 0 ∗ hG m c i 0)
    ∗ (zero (F := F) (xrC c i 0) ∗ WX (F := F) c i 1 ∗ hG m c i 1 ∗ WP (F := F) c i 1)
    ∗ bigSep (Finset.range 13) (fun s => iprop(zero (F := F) (xrC c i (1 + s)) ∗ zero (F := F) (prC c i (1 + s)) ∗ WX (F := F) c i (1 + s + 1)
        ∗ hG m c i (1 + s + 1) ∗ WP (F := F) c i (1 + s + 1)))
    ∗ (zero (F := F) (xrC c i 14) ∗ zero (F := F) (prC c i 14) ∗ gAny (F := F) c i 15 ∗ WP (F := F) c i 15)
    ∗ (zero (F := F) (prC c i 15) ∗ pAny (F := F) c i 16 ∗ pAny (F := F) c i 0 ∗ oO c i (res m c i)))

/-- the same in the last waits' order, -/
def WaitP (i : ℕ) : sProp 𝕄 :=
  iprop(bigSep (Finset.range 15) (fun s => iprop(WX (F := F) c i s ∗ hG m c i s)) ∗ bigSep (Finset.range 15) (fun s => WP (F := F) c i (1 + s)))
def RestP (i : ℕ) : sProp 𝕄 :=
  iprop(bigSep (Finset.range 15) (fun s => zero (F := F) (xrC c i s)) ∗ bigSep (Finset.range 15) (fun s => zero (F := F) (prC c i (1 + s)))
    ∗ gAny (F := F) c i 15 ∗ pAny (F := F) c i 16 ∗ pAny (F := F) c i 0 ∗ oO c i (res m c i))
/-- and after them. -/
def DoneP (i : ℕ) : sProp 𝕄 :=
  iprop(bigSep (Finset.range 15) (fun s => iprop(zero (F := F) (xsC c i s) ∗ gAny (F := F) c i s))
    ∗ bigSep (Finset.range 15) (fun s => iprop(zero (F := F) (psC c i (1 + s)) ∗ pAny (F := F) c i (1 + s))))

theorem range_head2 (Φ : ℕ → sProp 𝕄) : bigSep (Finset.range 15) Φ = iprop(Φ 0 ∗ Φ 1 ∗ bigSep (Finset.range 13) fun s => Φ (1 + s + 1)) := by
  rw [show (15 : ℕ) = 2 + 13 from rfl, bigSep_range_add, bigSep_range_succ, bigSep_range_succ, Finset.range_zero, bigSep_empty,
    show (fun y => Φ (2 + y)) = fun s => Φ (1 + s + 1) from funext fun s => congrArg Φ (by omega)]
  show iprop((Φ 1 ∗ Φ 0 ∗ emp) ∗ _) = _
  rw [sepE]; ac_rfl
theorem range_ends (Φ : ℕ → sProp 𝕄) : bigSep (Finset.range 15) Φ = iprop(Φ 0 ∗ (bigSep (Finset.range 13) fun s => Φ (1 + s)) ∗ Φ 14) := by
  rw [bigSep_range_succ, show (14 : ℕ) = 1 + 13 from rfl, bigSep_range_add, bigSep_range_succ, Finset.range_zero, bigSep_empty]
  show iprop(Φ 14 ∗ (Φ 0 ∗ emp) ∗ _) = _
  rw [sepE]; ac_rfl

theorem mid_wait (i : ℕ) : MidP m c i = iprop(WaitP m c i ∗ RestP m c i) := by
  unfold MidP WaitP RestP
  rw [range_head2 (fun s => iprop(WX (F := F) c i s ∗ hG m c i s)), range_ends (fun s => WP (F := F) c i (1 + s)),
    range_ends (fun s => zero (F := F) (xrC c i s)), bigSep_range_succ 14 (fun s => zero (F := F) (prC c i (1 + s))), bigSep_range_succ 13]
  rw [show (fun s => WP (F := F) c i (1 + (1 + s))) = fun s => WP (F := F) c i (1 + s + 1) from funext fun s => by rw [show 1 + (1 + s) = 1 + s + 1 by omega]]
  simp only [bigSep_sep', Nat.reduceAdd]
  ac_rfl

theorem Thr_skip {k : ℕ} (hk : k < 128) (h0 : due c k = 0) : Thr m c k = Thr m c (k + 1) := by unfold Thr; rw [O_succ c hk, h0, add_zero]

variable {m c} in
theorem Tri.num {α : Type} {p : KP F α} {A : sProp 𝕄} {B : α → sProp 𝕄} {n n' k k' : ℕ} (h : Tri m c p A B k k') (hn : Thr m c n = Thr m c k)
    (hn' : Thr m c n' = Thr m c k') : Tri m c p A B n n' := fun Q => by rw [hn, hn']; exact h Q

theorem waits_tri : Tri m c (runL ((List.range 4).flatMap (fun i => (List.range 15).map (waitXS i))
      ++ (List.range 4).flatMap (fun i => (List.range' 1 15).map (waitPS i)))) (bigSep (Finset.range 4) (WaitP m c))
    (fun _ => bigSep (Finset.range 4) (DoneP (F := F) c)) 128 128 := by
  have e (l : List ℕ) (f : ℕ → KP F PUnit) : l.map f = l.flatMap fun s => [f s] := List.map_eq_flatMap
  have hx : Tri m c (runL ((List.range 4).flatMap (fun i => (List.range 15).map (waitXS i)))) (bigSep (Finset.range 4) fun i =>
      bigSep (Finset.range 15) (fun s => iprop(WX (F := F) c i s ∗ hG m c i s)))
      (fun _ => bigSep (Finset.range 4) fun i => bigSep (Finset.range 15) (fun s => iprop(zero (F := F) (xsC c i s) ∗ gAny (F := F) c i s))) 128 128 := by
    rw [List.range_eq_range', List.range_eq_range']
    refine Tri.flat _ (fun _ => 128) 0 4 fun i hi => ?_
    rw [e, Nat.zero_add]
    refine Tri.flat _ (fun _ => 128) 0 15 fun s hs => ?_
    rw [Nat.zero_add]
    exact Tri.one (waitXS_tri m c hi hs)
  have hp : Tri m c (runL ((List.range 4).flatMap (fun i => (List.range' 1 15).map (waitPS i)))) (bigSep (Finset.range 4) fun i =>
      bigSep (Finset.range 15) (fun s => WP (F := F) c i (1 + s)))
      (fun _ => bigSep (Finset.range 4) fun i => bigSep (Finset.range 15) (fun s => iprop(zero (F := F) (psC c i (1 + s)) ∗ pAny (F := F) c i (1 + s)))) 128 128 := by
    rw [List.range_eq_range']
    refine Tri.flat _ (fun _ => 128) 0 4 fun i hi => ?_
    rw [e, Nat.zero_add]
    exact Tri.flat _ (fun _ => 128) 1 15 fun s hs => Tri.one (waitPS_tri m c hi (by omega) (by omega))
  have h := hx.par hp
  rw [← bigSep_sep', ← bigSep_sep'] at h
  exact h

theorem sepL (P Q R : sProp 𝕄) : iprop(P ∗ Q ∗ R) = iprop(Q ∗ P ∗ R) := by ac_rfl

/-- The order of the phases, for any resources. -/
theorem phases {l₁ l₂ l₃ l₄ l₅ l₆ l₇ : List (KP F PUnit)} {S Pa Wx Hg Po A₃ B₃ A₄ B₄ A₅ B₅ A₆ B₆ W R D : sProp 𝕄} {n₁ n₂ n₃ n₄ n₅ n₆ n₇ n₈ : ℕ}
    (h₁ : Tri m c (runL l₁) S (fun _ => iprop(Wx ∗ Hg)) n₁ n₂) (h₂ : Tri m c (runL l₂) iprop(Hg ∗ Pa) (fun _ => iprop(Hg ∗ Po)) n₂ n₃)
    (h₃ : Tri m c (runL l₃) A₃ (fun _ => B₃) n₃ n₄) (h₄ : Tri m c (runL l₄) A₄ (fun _ => B₄) n₄ n₅) (h₅ : Tri m c (runL l₅) A₅ (fun _ => B₅) n₅ n₆)
    (h₆ : Tri m c (runL l₆) iprop(Po ∗ A₆) (fun _ => B₆) n₆ n₇) (h₇ : Tri m c (runL l₇) W (fun _ => D) n₇ n₈)
    (e : iprop((Wx ∗ Hg) ∗ B₃ ∗ B₄ ∗ B₅ ∗ B₆) = iprop(W ∗ R)) :
    Tri m c (runL (l₁ ++ (l₂ ++ (l₃ ++ (l₄ ++ (l₅ ++ (l₆ ++ l₇))))))) iprop(S ∗ Pa ∗ A₃ ∗ A₄ ∗ A₅ ∗ A₆) (fun _ => iprop(D ∗ R)) n₁ n₈ := by
  refine (h₁.frame _).seq ?_
  refine ((h₂.frame iprop(Wx ∗ A₃ ∗ A₄ ∗ A₅ ∗ A₆)).pre (Entails.of_eq (by ac_rfl))).seq ?_
  refine ((h₃.frame iprop(Wx ∗ Hg ∗ Po ∗ A₄ ∗ A₅ ∗ A₆)).pre (Entails.of_eq (by ac_rfl))).seq ?_
  refine ((h₄.frame iprop(Wx ∗ Hg ∗ Po ∗ B₃ ∗ A₅ ∗ A₆)).pre (Entails.of_eq (by ac_rfl))).seq ?_
  refine ((h₅.frame iprop(Wx ∗ Hg ∗ Po ∗ B₃ ∗ B₄ ∗ A₆)).pre (Entails.of_eq (by ac_rfl))).seq ?_
  refine ((h₆.frame iprop(Wx ∗ Hg ∗ B₃ ∗ B₄ ∗ B₅)).pre (Entails.of_eq (by ac_rfl))).seq ?_
  exact (h₇.frame R).pre (Entails.of_eq (by rw [← e]; ac_rfl))

theorem steps_tri : Tri m c (runL (steps c)) (bigSep (Finset.range 4) (PreP (F := F) c))
    (fun _ => bigSep (Finset.range 4) fun i => iprop(DoneP (F := F) c i ∗ RestP m c i)) 0 128 := by
  have h1 := Tri.each (m := m) (c := c) (f := stage c) (fun i => 2 * (4 * 0 + i)) fun i hi =>
    (stage_tri m c hi).num rfl (Thr_skip m c (k := 2 * (4 * 0 + i) + 1) (by omega) (due_a0 c hi)).symm
  have h2 := Tri.each (m := m) (c := c) (f := fun i => comp i 0) (fun i => 8) fun i hi => comp_tri (i := i) (s := 0) m c fullShare.right (XV m i 0 c) 8
  have h3 := Tri.each (m := m) (c := c) (f := first c) (fun i => 2 * (4 * 1 + i)) fun i hi => first_tri m c hi
  have h4 := Tri.flat (m := m) (c := c) (fun s => each (mid c s)) (fun s => 2 * (4 * (1 + s + 1))) 1 13 fun s hs =>
    Tri.each (m := m) (c := c) (f := mid c (1 + s)) (fun i => 2 * (4 * (1 + s + 1) + i)) fun i hi => mid_tri (s := 1 + s) m c hi (by omega) (by omega)
  have h5 := Tri.each (m := m) (c := c) (f := last c) (fun i => 2 * (4 * 15 + i)) fun i hi =>
    (last_tri m c hi).num (Thr_skip m c (k := 2 * (4 * 15 + i)) (by omega) (due_x15 c hi)) rfl
  have h6 := Tri.each (m := m) (c := c) (f := fin) (fun i => 128) fun i hi => fin_tri m c hi
  have hM : bigSep (Finset.range 4) (MidP m c) = iprop(bigSep (Finset.range 4) (WaitP m c) ∗ bigSep (Finset.range 4) (RestP m c)) := by
    rw [← bigSep_sep']; exact bigSep_congr fun i _ => mid_wait m c i
  simp only [bigSep_sep'] at h1 h2 h3 h4 h5 h6
  rw [bigSep_sep']
  refine (phases m c h1 h2 h3 h4 h5 (h6.pre (Entails.of_eq (sepL _ _ _))) (waits_tri m c) (R := bigSep (Finset.range 4) (RestP m c)) ?_).pre (Entails.of_eq ?_)
  · rw [← hM]; unfold MidP; simp only [bigSep_sep', bigSep_swap (Finset.range 4) (Finset.range 13)]
  · unfold PreP; simp only [bigSep_sep', bigSep_swap (Finset.range 4) (Finset.range 13)]

/-! ## The handshake -/

/-- What the device's barrier cell and its two signals need. -/
def barG : sProp 𝕄 :=
  iprop(atP (F := F) (barC c) ∗ cred (tallyAt (barC c) () 2) ∗ dutyTok ER (barC (lft c)) 0 false ∗ dutyTok ER (barC (rgt c)) 0 true)

theorem expect_bar : (sched (F := F) m).expect (barC c) 0 = 2 := by
  unfold Schedule.expect Schedule.amountOf
  rw [duties_bar]; rfl
theorem rest_bar : bigSep ((sched (F := F) m).duties (barC c) 0 \ ∅) (fun d => (sched (F := F) m).payload (barC c) 0 d)
    = iprop(bigSep (Finset.range 4) fun i => land (F := F) (tgt i c) i) := by
  rw [Finset.sdiff_empty, duties_bar, show (Finset.univ : Finset Bool) = {false, true} by decide, bigSep_insert (by decide), bigSep_singleton, bigSep_range4]
  show iprop((land (F := F) (rgt c) 0 ∗ land (F := F) (rgt c) 2) ∗ land (F := F) (lft c) 1 ∗ land (F := F) (lft c) 3)
    = iprop(land (F := F) (rgt c) 0 ∗ land (F := F) (lft c) 1 ∗ land (F := F) (rgt c) 2 ∗ land (F := F) (lft c) 3)
  ac_rfl

theorem meet_wp (Q : Dev nD → sProp 𝕄) :
    iprop(ctx m ∗ (∃ W, owes (c : Thread nD τ) (O₀ c) W) ∗ ops m c ∗ barG (F := F) c ∗ bigSep (Finset.range 4) (fun i => land (F := F) c i))
      ⊢ iprop(((bigSep (Finset.range 4) fun i => land (F := F) (tgt i c) i) -∗ zero (F := F) (barC c) -∗ Thr m c 0 -∗ Q c)
          -∗ wp frame (wpE (defs₀ (F := F)) 𝒱₀ (c : Thread nD τ) none) Set.univ meet Q) := by
  unfold meet
  simp only [semSignalWord, semWaitWord, Prog.lift, Prog.bind_op, Prog.bind_ret, Prog.pure_eq_ret, wp_deviceId]
  simp only [dev1_eq c, dev2_eq c]
  unfold ctx barG O₀
  rw [bigSep_range4]
  iintro ⟨⟨#HR, #HL⟩, ⟨%W, HO⟩, Hops, ⟨Hat, Hc, Ht1, Ht2⟩, Hl0, Hl1, Hl2, Hl3⟩ Hk
  ihave H1 := (rec_bar m (lft c)) $$ HR
  ihave H2 := (rec_bar m (rgt c)) $$ HR
  ihave H3 := (rec_bar m c) $$ HR
  unfold cellOk
  icases H1 with ⟨⟨%κ₁, #Hi1⟩, #Hr1⟩
  icases H2 with ⟨⟨%κ₂, #Hi2⟩, #Hr2⟩
  icases H3 with ⟨⟨%κ₃, #Hi3⟩, #Hr3⟩
  iapply (Rounds.wp_signal 𝒱₀ ER (sched (F := F) m) (c : Thread nD τ) none (dst := (lft c : Thread nD τ)) (κ := κ₁) (d := false)
      (by rw [duties_bar]; exact Finset.mem_univ _) (show (sched (F := F) m).amount (barC (lft c)) 0 false = _ from (by decide : 1 = BitVec.toNat 1#32)) () (O₁ c) rfl)
    $$ [HO Ht1 Hl0 Hl2]
  · isplitr; · iexact Hi1
    isplitl [HO]; · iexact HO
    isplitl [Ht1]; · iexact Ht1
    isplitl [Hl0 Hl2]
    · rw [show (sched (F := F) m).payload (barC (lft c)) 0 false = iprop(land (F := F) (rgt (lft c)) 0 ∗ land (F := F) (rgt (lft c)) 2) from rfl, rgt_lft]
      isplitl [Hl0]; · iexact Hl0
      iexact Hl2
    iexact Hr1
  iintro HO
  unfold O₁
  iapply (Rounds.wp_signal 𝒱₀ ER (sched (F := F) m) (c : Thread nD τ) none (dst := (rgt c : Thread nD τ)) (κ := κ₂) (d := true)
      (by rw [duties_bar]; exact Finset.mem_univ _) (show (sched (F := F) m).amount (barC (rgt c)) 0 true = _ from (by decide : 1 = BitVec.toNat 1#32)) () (O c 0) rfl)
    $$ [HO Ht2 Hl1 Hl3]
  · isplitr; · iexact Hi2
    isplitl [HO]; · iexact HO
    isplitl [Ht2]; · iexact Ht2
    isplitl [Hl1 Hl3]
    · rw [show (sched (F := F) m).payload (barC (rgt c)) 0 true = iprop(land (F := F) (lft (rgt c)) 1 ∗ land (F := F) (lft (rgt c)) 3) from rfl, lft_rgt]
      isplitl [Hl1]; · iexact Hl1
      iexact Hl3
    iexact Hr2
  iintro HO
  iapply (Rounds.wp_wait_rest_token 𝒱₀ ER (sched (F := F) m) (c : Thread nD τ) none (κ := κ₃)
      (wpE_semWait_eq 𝒱₀ (c : Thread nD τ) none Set.univ) (Set.mem_univ _) () (O := O c 0) (W := W) (R := 0) (m := 0) (T := ∅)
      (by rw [expect_bar]; decide)) $$ [Hc HO Hat]
  · isplitr; · iexact Hi3
    isplitl [Hc]; · iexact Hc
    isplitl [HO]; · iexact HO
    isplitr; · iapply (mayWait c (.reg barS.sem) 0 (show 1 < 2 + 0 by decide)); iexact HL
    iexact Hat
  iintro ⟨HO, Hat, -, Hp⟩
  ihave Hp := (Entails.of_eq (rest_bar m c)) $$ Hp
  imod (cell_close ER (sched (F := F) m) (Set.mem_univ κ₃) (fun h => h) (R := 0 + 1) (duties_later m (barC c))) $$ [Hat] with Hz
  · isplitr; · iexact Hi3
    iexact Hat
  rw [wp_ret]; imodintro
  unfold Thr
  iapply Hk $$ Hp Hz
  isplitl [HO]; · iexists _; iexact HO
  iexact Hops

/-! ## The whole body -/

/-- The ghost state of pipe `i`: positions, credits and duties. -/
def Gh (i : ℕ) : sProp 𝕄 :=
  iprop(bigSep (Finset.range 15) (fun s => RX (F := F) c i s) ∗ bigSep (Finset.range 15) (fun s => RP (F := F) c i (1 + s))
    ∗ bigSep (Finset.range 15) (fun s => iprop(atP (F := F) (xsC c i s) ∗ dutyTok ER (xsC c i s) 0 false ∗ dutyTok ER (xrC (tgt i c) i s) 0 false))
    ∗ bigSep (Finset.range 15) (fun s => iprop(atP (F := F) (psC c i (1 + s)) ∗ dutyTok ER (psC c i (1 + s)) 0 false ∗ dutyTok ER (prC (tgt i c) i (1 + s)) 0 false))
    ∗ atP (F := F) (psC c i 0) ∗ atP (F := F) (prC c i 0))

/-- Pipe `i`'s slots at any contents, and its cells closed. -/
def scr (i : ℕ) : sProp 𝕄 := iprop(bigSep (Finset.range 16) (gAny (F := F) c i) ∗ bigSep (Finset.range 17) (pAny (F := F) c i))
def zs (i : ℕ) : sProp 𝕄 :=
  iprop(bigSep (Finset.range 15) (fun s => zero (F := F) (xsC c i s)) ∗ bigSep (Finset.range 15) (fun s => zero (F := F) (xrC c i s))
    ∗ bigSep (Finset.range 16) (fun s => zero (F := F) (psC c i s)) ∗ bigSep (Finset.range 16) (fun s => zero (F := F) (prC c i s)))

theorem range_first (k : ℕ) (Φ : ℕ → sProp 𝕄) : bigSep (Finset.range (1 + k)) Φ = iprop(Φ 0 ∗ bigSep (Finset.range k) fun s => Φ (1 + s)) := by
  rw [bigSep_range_add, bigSep_range_succ, Finset.range_zero, bigSep_empty]
  show iprop((Φ 0 ∗ emp) ∗ _) = _
  rw [sepE]

theorem scr_land (i : ℕ) : scr (F := F) c i = iprop((gAny (F := F) c i 0 ∗ pAny (F := F) c i 0 ∗ pAny (F := F) c i 1) ∗ land (F := F) c i) := by
  unfold scr land
  rw [range_first 15, show (17 : ℕ) = 1 + 16 from rfl, range_first 16, show (16 : ℕ) = 1 + 15 from rfl, range_first 15,
    show (fun s => gAny (F := F) c i (1 + s)) = fun s => gAny (F := F) c i (s + 1) from funext fun s => by rw [Nat.add_comm],
    show (fun s => pAny (F := F) c i (1 + (1 + s))) = fun s => pAny (F := F) c i (s + 2) from funext fun s => by rw [show 1 + (1 + s) = s + 2 by omega]]
  simp only [Nat.reduceAdd]
  ac_rfl

theorem pre_of (i : ℕ) : iprop((gAny (F := F) c i 0 ∗ pAny (F := F) c i 0 ∗ pAny (F := F) c i 1) ∗ land (F := F) (tgt i c) i ∗ Gh (F := F) c i ∗ oAny (F := F) c i)
    = iprop(PreP (F := F) c i ∗ atP (F := F) (psC c i 0) ∗ atP (F := F) (prC c i 0)) := by
  have hsx : bigSep (Finset.range 15) (fun s => SX (F := F) c i s) = iprop(bigSep (Finset.range 15) (fun s => gAny (F := F) (tgt i c) i (s + 1))
      ∗ bigSep (Finset.range 15) (fun s => iprop(atP (F := F) (xsC c i s) ∗ dutyTok ER (xsC c i s) 0 false ∗ dutyTok ER (xrC (tgt i c) i s) 0 false))) := by
    rw [← bigSep_sep']; rfl
  have hsp : bigSep (Finset.range 15) (fun s => SP (F := F) c i (1 + s)) = iprop(bigSep (Finset.range 15) (fun s => pAny (F := F) (tgt i c) i (s + 2))
      ∗ bigSep (Finset.range 15) (fun s => iprop(atP (F := F) (psC c i (1 + s)) ∗ dutyTok ER (psC c i (1 + s)) 0 false ∗ dutyTok ER (prC (tgt i c) i (1 + s)) 0 false))) := by
    rw [← bigSep_sep', show (fun s => iprop(pAny (F := F) (tgt i c) i (s + 2) ∗ _)) = fun s => SP (F := F) c i (1 + s) from funext fun s => by
      unfold SP; rw [show 1 + s + 1 = s + 2 by omega]]
  have e1 : iprop(land (F := F) (tgt i c) i ∗ Gh (F := F) c i) = iprop(bigSep (Finset.range 15) (fun s => SX (F := F) c i s)
      ∗ bigSep (Finset.range 15) (fun s => SP (F := F) c i (1 + s)) ∗ bigSep (Finset.range 15) (fun s => RX (F := F) c i s)
      ∗ bigSep (Finset.range 15) (fun s => RP (F := F) c i (1 + s)) ∗ atP (F := F) (psC c i 0) ∗ atP (F := F) (prC c i 0)) := by
    rw [hsx, hsp]; unfold land Gh; ac_rfl
  rw [← sepA (land (F := F) (tgt i c) i), e1, range_head2 (fun s => SX (F := F) c i s), range_ends (fun s => SP (F := F) c i (1 + s)),
    range_ends (fun s => RX (F := F) c i s), bigSep_range_succ 14 (fun s => RP (F := F) c i (1 + s)), bigSep_range_succ 13]
  rw [show (fun s => SP (F := F) c i (1 + (1 + s))) = fun s => SP (F := F) c i (1 + s + 1) from funext fun s => by rw [show 1 + (1 + s) = 1 + s + 1 by omega]]
  unfold PreP
  simp only [bigSep_sep', Nat.reduceAdd]
  ac_rfl

theorem post_of (i : ℕ) : iprop((DoneP (F := F) c i ∗ RestP m c i) ∗ zero (F := F) (psC c i 0) ∗ zero (F := F) (prC c i 0))
    = iprop(zs (F := F) c i ∗ scr (F := F) c i ∗ oO c i (res m c i)) := by
  unfold zs scr DoneP RestP
  rw [bigSep_range_succ 15 (gAny (F := F) c i), bigSep_range_succ 16 (pAny (F := F) c i), show (16 : ℕ) = 1 + 15 from rfl,
    range_first 15, range_first 15, range_first 15]
  simp only [bigSep_sep', Nat.reduceAdd]
  ac_rfl

/-- The cells that nothing is due at, closed. -/
theorem close_ps : iprop(ctx (F := F) m ∗ bigSep (Finset.range 4) (fun i => atP (F := F) (psC c i 0)))
    ⊢ iprop(|={Set.univ}=> bigSep (Finset.range 4) (fun i => zero (F := F) (psC c i 0))) :=
  close_many ER (sched (F := F) m) (Finset.range 4) (fun i => psC c i 0) (ctx (F := F) m)
    (fun i => by unfold ctx; iintro ⟨#HR, -⟩; iapply (rec_ps m c i 0); iexact HR)
    (fun i r _ => duties_dead m c _ (by rw [psS_val]; unfold live psN; omega) r) (fun _ => not_unitless m _)
theorem close_pr : iprop(ctx (F := F) m ∗ bigSep (Finset.range 4) (fun i => atP (F := F) (prC c i 0)))
    ⊢ iprop(|={Set.univ}=> bigSep (Finset.range 4) (fun i => zero (F := F) (prC c i 0))) :=
  close_many ER (sched (F := F) m) (Finset.range 4) (fun i => prC c i 0) (ctx (F := F) m)
    (fun i => by unfold ctx; iintro ⟨#HR, -⟩; iapply (rec_pr m c i 0); iexact HR)
    (fun i r _ => duties_dead m c _ (by rw [prS_val]; unfold live prN; omega) r) (fun _ => not_unitless m _)

theorem prog_wp (Q : PUnit → sProp 𝕄) :
    iprop(ctx m ∗ (∃ W, owes (c : Thread nD τ) (O₀ c) W) ∗ ops m c ∗ barG (F := F) c ∗ bigSep (Finset.range 4) (scr (F := F) c)
        ∗ bigSep (Finset.range 4) (Gh (F := F) c) ∗ bigSep (Finset.range 4) (oAny (F := F) c))
      ⊢ iprop((zero (F := F) (barC c) -∗ bigSep (Finset.range 4) (zs (F := F) c) -∗ bigSep (Finset.range 4) (scr (F := F) c)
            -∗ bigSep (Finset.range 4) (fun i => oO c i (res m c i)) -∗ (∃ W, owes (c : Thread nD τ) 0 W) -∗ ops m c -∗ Q ⟨⟩)
          -∗ wp frame (wpE (defs₀ (F := F)) 𝒱₀ (c : Thread nD τ) none) Set.univ prog Q) := by
  have es : bigSep (Finset.range 4) (scr (F := F) c) = iprop(bigSep (Finset.range 4) (fun i => iprop(gAny (F := F) c i 0 ∗ pAny (F := F) c i 0 ∗ pAny (F := F) c i 1))
      ∗ bigSep (Finset.range 4) (fun i => land (F := F) c i)) := by
    rw [← bigSep_sep']; exact bigSep_congr fun i _ => scr_land c i
  have ep : iprop(bigSep (Finset.range 4) (fun i => iprop(gAny (F := F) c i 0 ∗ pAny (F := F) c i 0 ∗ pAny (F := F) c i 1))
        ∗ bigSep (Finset.range 4) (fun i => land (F := F) (tgt i c) i) ∗ bigSep (Finset.range 4) (Gh (F := F) c) ∗ bigSep (Finset.range 4) (oAny (F := F) c))
      = iprop(bigSep (Finset.range 4) (PreP (F := F) c) ∗ bigSep (Finset.range 4) (fun i => iprop(atP (F := F) (psC c i 0) ∗ atP (F := F) (prC c i 0)))) := by
    rw [← bigSep_sep', ← bigSep_sep', ← bigSep_sep', ← bigSep_sep']; exact bigSep_congr fun i _ => pre_of c i
  have eq : iprop(bigSep (Finset.range 4) (fun i => iprop(DoneP (F := F) c i ∗ RestP m c i)) ∗ bigSep (Finset.range 4) (fun i => iprop(zero (F := F) (psC c i 0) ∗ zero (F := F) (prC c i 0))))
      = iprop(bigSep (Finset.range 4) (zs (F := F) c) ∗ bigSep (Finset.range 4) (scr (F := F) c) ∗ bigSep (Finset.range 4) (fun i => oO c i (res m c i))) := by
    rw [← bigSep_sep', ← bigSep_sep', ← bigSep_sep']; exact bigSep_congr fun i _ => post_of m c i
  unfold prog
  rw [wp_bind]
  iintro ⟨#HC, HO, Hops, Hb, Hs, Hg, Ho⟩ Hk
  ihave Hs := (Entails.of_eq es) $$ Hs
  icases Hs with ⟨Hs, Hl⟩
  iapply (meet_wp m c _) $$ [HO Hops Hb Hl]
  · isplitr; · iexact HC
    isplitl [HO]; · iexact HO
    isplitl [Hops]; · iexact Hops
    isplitl [Hb]; · iexact Hb
    iexact Hl
  iintro Hl Hz HT
  ihave Hp := (Entails.of_eq ep) $$ [Hs Hl Hg Ho]
  · isplitl [Hs]; · iexact Hs
    isplitl [Hl]; · iexact Hl
    isplitl [Hg]; · iexact Hg
    iexact Ho
  icases Hp with ⟨Hp, Hu⟩
  ihave Hu := (Entails.of_eq (bigSep_sep' _ _ _)) $$ Hu
  icases Hu with ⟨Hu1, Hu2⟩
  imod (close_ps m c) $$ [Hu1] with Hu1
  · isplitr; · iexact HC
    iexact Hu1
  imod (close_pr m c) $$ [Hu2] with Hu2
  · isplitr; · iexact HC
    iexact Hu2
  iapply (steps_tri m c Q) $$ [Hp HT]
  · isplitr; · iexact HC
    isplitl [Hp]; · iexact Hp
    iexact HT
  iintro %v Hd HT
  ihave Hd := (Entails.of_eq eq) $$ [Hd Hu1 Hu2]
  · isplitl [Hd]; · iexact Hd
    rw [bigSep_sep']
    isplitl [Hu1]; · iexact Hu1
    iexact Hu2
  icases Hd with ⟨H1, H2, H3⟩
  unfold Thr
  rw [O_end]
  icases HT with ⟨HO, Hops⟩
  iapply Hk $$ Hz H1 H2 H3 HO Hops

end Cert.KernelIdealPf

end
-- ==== Proof.ISplit.lean ====
/-
The buffers cut into the pipes' slots, and a device's cells listed by their names.
-/
module

public import proofs.«01_k».proof.Proof.IRun

@[expose] public section

noncomputable section

namespace Cert.KernelIdealPf

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The two scratch buffers -/

theorem gR_disj (t t' : Fin 4 × Fin 16) (h : t ≠ t') : Disjoint (gR t.1 t.2).set (gR t'.1 t'.2).set := by
  obtain ⟨⟨a, ha⟩, ⟨b, hb⟩⟩ := t
  obtain ⟨⟨a', ha'⟩, ⟨b', hb'⟩⟩ := t'
  by_cases h0 : a = a'
  · refine Rect.disjoint_of_axis _ _ (1 : Fin 4) fun j₁ h₁ j₂ h₂ e => ?_
    have h₁ : j₁ < 1 := h₁
    have h₂ : j₂ < 1 := h₂
    have e : b % 16 + 1 * j₁ = b' % 16 + 1 * j₂ := e
    refine h ?_
    obtain rfl : b = b' := by omega
    subst h0; rfl
  · refine Rect.disjoint_of_axis _ _ (0 : Fin 4) fun j₁ h₁ j₂ h₂ e => ?_
    have h₁ : j₁ < 1 := h₁
    have h₂ : j₂ < 1 := h₂
    have e : a % 4 + 1 * j₁ = a' % 4 + 1 * j₂ := e
    exact h0 (by omega)
theorem pR_disj (t t' : Fin 4 × Fin 17) (h : t ≠ t') : Disjoint (pR t.1 t.2).set (pR t'.1 t'.2).set := by
  obtain ⟨⟨a, ha⟩, ⟨b, hb⟩⟩ := t
  obtain ⟨⟨a', ha'⟩, ⟨b', hb'⟩⟩ := t'
  by_cases h0 : a = a'
  · refine Rect.disjoint_of_axis _ _ (1 : Fin 4) fun j₁ h₁ j₂ h₂ e => ?_
    have h₁ : j₁ < 1 := h₁
    have h₂ : j₂ < 1 := h₂
    have e : b % 17 + 1 * j₁ = b' % 17 + 1 * j₂ := e
    refine h ?_
    obtain rfl : b = b' := by omega
    subst h0; rfl
  · refine Rect.disjoint_of_axis _ _ (0 : Fin 4) fun j₁ h₁ j₂ h₂ e => ?_
    have h₁ : j₁ < 1 := h₁
    have h₂ : j₂ < 1 := h₂
    have e : a % 4 + 1 * j₁ = a' % 4 + 1 * j₂ := e
    exact h0 (by omega)

theorem gR_cov (i : S4x16x128x512.Idx) : ∃ t : Fin 4 × Fin 16, i ∈ (gR t.1 t.2).set := by
  have h0 : (i 0).val < 4 := (i 0).isLt
  have h1 : (i 1).val < 16 := (i 1).isLt
  refine ⟨(⟨(i 0).val, h0⟩, ⟨(i 1).val, h1⟩), Rect.mem_set_unit.mpr fun a => ?_⟩
  fin_cases a
  · show (i 0).val % 4 ≤ (i 0).val ∧ (i 0).val < (i 0).val % 4 + 1; omega
  · show (i 1).val % 16 ≤ (i 1).val ∧ (i 1).val < (i 1).val % 16 + 1; omega
  · exact ⟨Nat.zero_le _, (Nat.zero_add 128).symm ▸ (i 2).isLt⟩
  · exact ⟨Nat.zero_le _, (Nat.zero_add 512).symm ▸ (i 3).isLt⟩
theorem pR_cov (i : S4x17x128x512.Idx) : ∃ t : Fin 4 × Fin 17, i ∈ (pR t.1 t.2).set := by
  have h0 : (i 0).val < 4 := (i 0).isLt
  have h1 : (i 1).val < 17 := (i 1).isLt
  refine ⟨(⟨(i 0).val, h0⟩, ⟨(i 1).val, h1⟩), Rect.mem_set_unit.mpr fun a => ?_⟩
  fin_cases a
  · show (i 0).val % 4 ≤ (i 0).val ∧ (i 0).val < (i 0).val % 4 + 1; omega
  · show (i 1).val % 17 ≤ (i 1).val ∧ (i 1).val < (i 1).val % 17 + 1; omega
  · exact ⟨Nat.zero_le _, (Nat.zero_add 128).symm ▸ (i 2).isLt⟩
  · exact ⟨Nat.zero_le _, (Nat.zero_add 512).symm ▸ (i 3).isLt⟩

/-- A conjunction over pipes and slots, by their numbers. -/
theorem pairs (n k : ℕ) (Φ : ℕ → ℕ → sProp 𝕄) :
    bigSep Finset.univ (fun t : Fin n × Fin k => Φ t.1.val t.2.val) = bigSep (Finset.range n) fun i => bigSep (Finset.range k) fun s => Φ i s := by
  rw [bigSep_univ_prod (fun t : Fin n × Fin k => Φ t.1.val t.2.val), ← bigSep_univ_range n fun i => bigSep (Finset.range k) fun s => Φ i s]
  exact bigSep_congr fun i _ => bigSep_univ_range k (Φ i.val)

theorem scr_split : iprop((∃ X, owns (c : Thread nD τ) gM fullShare X) ∗ (∃ X, owns (c : Thread nD τ) pM fullShare X)) ⊢ (bigSep (Finset.range 4) (scr (F := F) c) : sProp 𝕄) := by
  have hg := any_tiles (Val := Elt F) (U := UU) (c : Thread nD τ) gM (fun t : Fin 4 × Fin 16 => gR t.1 t.2) (fun _ _ => rfl) (fun _ => squeezes_S1x1x128x512_S128x512)
    (fun _ => shapeCasts_S1x1x128x512_S128x512) gR_disj gR_cov
  have hp := any_tiles (Val := Elt F) (U := UU) (c : Thread nD τ) pM (fun t : Fin 4 × Fin 17 => pR t.1 t.2) (fun _ _ => rfl) (fun _ => squeezes_S1x1x128x512_S128x512)
    (fun _ => shapeCasts_S1x1x128x512_S128x512) pR_disj pR_cov
  have eg := pairs 4 16 (gAny (F := F) c)
  have ep := pairs 4 17 (pAny (F := F) c)
  unfold scr
  rw [bigSep_sep']
  exact BI.sep_mono (hg.trans (Entails.of_eq eg)) (hp.trans (Entails.of_eq ep))

theorem scr_join : (bigSep (Finset.range 4) (scr (F := F) c) : sProp 𝕄) ⊢ iprop((∃ X, owns (c : Thread nD τ) gM fullShare X) ∗ (∃ X, owns (c : Thread nD τ) pM fullShare X)) := by
  have hg := any_of_tiles (Val := Elt F) (U := UU) (c : Thread nD τ) gM (fun t : Fin 4 × Fin 16 => gR t.1 t.2) (fun _ _ => rfl) (fun _ => squeezes_S1x1x128x512_S128x512)
    gR_disj gR_cov
  have hp := any_of_tiles (Val := Elt F) (U := UU) (c : Thread nD τ) pM (fun t : Fin 4 × Fin 17 => pR t.1 t.2) (fun _ _ => rfl) (fun _ => squeezes_S1x1x128x512_S128x512)
    pR_disj pR_cov
  have eg := pairs 4 16 (gAny (F := F) c)
  have ep := pairs 4 17 (pAny (F := F) c)
  unfold scr
  rw [bigSep_sep']
  exact BI.sep_mono ((Entails.of_eq eg.symm).trans hg) ((Entails.of_eq ep.symm).trans hp)

/-! ## The rows of the output -/

abbrev rows (t : Fin 4) : Rect S512x512 := xR t.val

theorem rowOf_inj (t t' : Fin 4) {j₁ j₂ : ℕ} (h₁ : j₁ < 128) (h₂ : j₂ < 128) (e : rowOf t.val + j₁ = rowOf t'.val + j₂) : t = t' := by
  have hq : (rowOf t.val + j₁) / 128 = (rowOf t'.val + j₂) / 128 := by rw [e]
  have hk (u : Fin 4) {j : ℕ} (hj : j < 128) : (rowOf u.val + j) / 128 = u.val % 2 * 2 + u.val / 2 := by
    have := u.isLt; unfold rowOf; omega
  rw [hk t h₁, hk t' h₂] at hq
  clear e h₁ h₂ hk
  revert hq; revert t t'; decide
theorem xR_disj (t t' : Fin 4) (h : t ≠ t') : Disjoint (rows t).set (rows t').set :=
  Rect.disjoint_of_axis _ _ (0 : Fin 2) fun j₁ h₁ j₂ h₂ e => h (rowOf_inj t t' h₁ h₂ (by
    have e : rowOf t.val + 1 * j₁ = rowOf t'.val + 1 * j₂ := e
    rw [Nat.one_mul, Nat.one_mul] at e; exact e))

/-- The pipe of a row. -/
def pipeOf (r : ℕ) : ℕ := 2 * (r / 128 % 2) + r / 128 / 2
theorem rowOf_pipe (r : ℕ) (h : r < 512) : pipeOf r < 4 ∧ rowOf (pipeOf r) = r / 128 * 128 := by
  have hk : r / 128 < 4 := by omega
  have hd : ∀ k : Fin 4, 2 * (k.val % 2) + k.val / 2 < 4 ∧ rowOf (2 * (k.val % 2) + k.val / 2) = k.val * 128 := by decide
  exact hd ⟨r / 128, hk⟩
theorem xR_cov (i : S512x512.Idx) : ∃ t : Fin 4, i ∈ (rows t).set := by
  have h0 : (i 0).val < 512 := (i 0).isLt
  obtain ⟨h1, h2⟩ := rowOf_pipe _ h0
  refine ⟨⟨pipeOf (i 0).val, h1⟩, Rect.mem_set_unit.mpr fun a => ?_⟩
  fin_cases a
  · show rowOf (pipeOf (i 0).val) ≤ (i 0).val ∧ (i 0).val < rowOf (pipeOf (i 0).val) + 128
    rw [h2]; omega
  · exact ⟨Nat.zero_le _, (Nat.zero_add 512).symm ▸ (i 1).isLt⟩

/-- The device's block of the result, its rows pipe by pipe. -/
def outV : Vec F S512x512 .f32 := Rect.glue rows (cover_of_mem rows xR_cov) fun t => res m c t.val

theorem outV_emb (t : Fin 4) (j : S128x512.Idx) : outV m c ((rows t).emb j) = res m c t.val j :=
  Rect.glue_emb rows (cover_of_mem rows xR_cov) xR_disj (fun t => res m c t.val) t j

theorem out_split (X : Vec F S512x512 .f32) : (owns (c : Thread nD τ) oM fullShare X : sProp 𝕄) ⊢ bigSep (Finset.range 4) (oAny (F := F) c) := by
  refine (owns_rects (c : Thread nD τ) oM fullShare rows (fun _ _ => rfl) xR_disj (cover_of_mem rows xR_cov) X).trans ?_
  rw [← bigSep_univ_range 4 (oAny (F := F) c)]
  refine bigSep_mono fun t _ => ?_
  unfold oAny oO
  exact BIClass.exists_intro (Φ := fun v => owns (c : Thread nD τ) (oM.slice (rows t) (fun _ => rfl)) fullShare v) _
theorem out_join : bigSep (Finset.range 4) (fun i => oO c i (res m c i)) ⊢ (owns (c : Thread nD τ) oM fullShare (outV m c) : sProp 𝕄) := by
  refine Entails.trans (Entails.of_eq ?_) (owns_of_rects (c : Thread nD τ) oM fullShare rows (fun _ _ => rfl) xR_disj (cover_of_mem rows xR_cov) (outV m c))
  rw [← bigSep_univ_range 4 fun i => oO c i (res m c i)]
  refine bigSep_congr fun t _ => ?_
  unfold oO
  exact congrArg _ (funext fun j => (outV_emb m c t j).symm)

/-! ## A device's cells -/

/-- What is said of each of a device's cells, by their names. -/
def each4 (Φ : GSem nD τ sig → sProp (MT nD τ sig Unit (Elt F) ℕ UU ℕ)) : sProp 𝕄 :=
  iprop((bigSep (Finset.range 4) fun i => bigSep (Finset.range 15) fun s => Φ (xsC c i s))
    ∗ (bigSep (Finset.range 4) fun i => bigSep (Finset.range 15) fun s => Φ (xrC c i s))
    ∗ (bigSep (Finset.range 4) fun i => bigSep (Finset.range 16) fun s => Φ (psC c i s))
    ∗ (bigSep (Finset.range 4) fun i => bigSep (Finset.range 16) fun s => Φ (prC c i s)))

set_option backward.proofsInPublic true in
/-- The kernel's own semaphores. -/
def osem (k : Fin 248) : SemLoc sig := .dma ⟨4 + k.val, by have := k.isLt; show _ < 252; omega⟩

theorem dma_at (q q' : DmaSem sig) (h : q.val = q'.val) : (((c : Thread nD τ), .dma q) : GSem nD τ sig) = ((c : Thread nD τ), .dma q') := by
  rw [Fin.ext h]

theorem own_split (Φ : GSem nD τ sig → sProp 𝕄) : bigSep Finset.univ (fun k : Fin 248 => Φ ((c : Thread nD τ), osem k)) = each4 c Φ := by
  have e : bigSep Finset.univ (fun k : Fin 248 => Φ ((c : Thread nD τ), osem k))
      = bigSep (Finset.range 248) fun k => if h : k < 248 then Φ ((c : Thread nD τ), osem ⟨k, h⟩) else iprop(emp) :=
    Ring.bigSep_fin_eq_range 248 _ _ fun k hk => dif_pos hk
  refine e.trans ?_
  refine (show _ = bigSep (Finset.range (4 * 15 + (4 * 15 + (4 * 16 + 4 * 16)))) _ from rfl).trans ?_
  rw [bigSep_range_add, bigSep_range_add, bigSep_range_add,
    bigSep_range_mul, bigSep_range_mul, bigSep_range_mul, bigSep_range_mul]
  unfold each4
  refine congr (congrArg _ ?_) (congr (congrArg _ ?_) (congr (congrArg _ ?_) ?_)) <;>
    refine bigSep_congr fun i hi => bigSep_congr fun s hs => ?_ <;>
    rw [Finset.mem_range] at hi hs <;>
    rw [dif_pos (by omega)] <;>
    refine congrArg Φ (dma_at c _ _ ?_)
  · rw [xsS_val]; unfold xsN; show 4 + (i * 15 + s) = _; omega
  · rw [xrS_val]; unfold xrN; show 4 + (4 * 15 + (i * 15 + s)) = _; omega
  · rw [psS_val]; unfold psN; show 4 + (4 * 15 + (4 * 15 + (i * 16 + s))) = _; omega
  · rw [prS_val]; unfold prN; show 4 + (4 * 15 + (4 * 15 + (4 * 16 + (i * 16 + s)))) = _; omega

theorem cells_split (Φ : GSem nD τ sig → sProp 𝕄) : bigSep Finset.univ (fun k : Fin 249 => Φ (kcell (c, k))) = iprop(each4 c Φ ∗ Φ (barC c)) := by
  rw [← own_split c Φ]
  have e : bigSep Finset.univ (fun k : Fin 249 => Φ (kcell (c, k)))
      = bigSep (Finset.range 249) fun k => if h : k < 249 then Φ (kcell (c, ⟨k, h⟩)) else iprop(emp) :=
    Ring.bigSep_fin_eq_range 249 _ _ fun k hk => dif_pos hk
  have e' : bigSep Finset.univ (fun k : Fin 248 => Φ ((c : Thread nD τ), osem k))
      = bigSep (Finset.range 248) fun k => if h : k < 249 then Φ (kcell (c, ⟨k, h⟩)) else iprop(emp) :=
    Ring.bigSep_fin_eq_range 248 _ _ fun k hk => by
      rw [dif_pos (by omega)]; unfold kcell ksem; rw [dif_pos hk]; rfl
  rw [e, bigSep_range_succ, ← e', dif_pos (by decide), kcell_bar]
  exact sepC _ _

end Cert.KernelIdealPf

end
-- ==== Proof.IFund.lean ====
/-
What the launch hands each device: every cell of the ring opened, the rights to pay dealt to those that pay, and the
credits for what the others owe it.
-/
module

public import proofs.«01_k».proof.Proof.IRun
public import proofs.«01_k».proof.Proof.ISplit

@[expose] public section

noncomputable section

namespace Cert.KernelIdealPf

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the rights to pay -/

theorem ksem_inj : Function.Injective ksem := fun k k' h => by
  unfold ksem at h
  split at h <;> split at h
  · have hv : 4 + k.val = 4 + k'.val := congrArg Fin.val (SemLoc.dma.inj h)
    exact Fin.ext (by omega)
  · cases h
  · cases h
  · have := k.isLt; have := k'.isLt
    exact Fin.ext (by omega)
theorem kcell_inj : Function.Injective kcell := fun a b h =>
  Prod.ext (congrArg (fun g : GSem nD τ sig => g.1.1) h) (ksem_inj (congrArg Prod.snd h))

def ringCells : Finset (GSem nD τ sig) := Finset.univ.map ⟨kcell, kcell_inj⟩

/-- Two rights to pay per cell: only the barrier's second one is ever used. -/
def tok (x : (Dev nD × Fin 249) × Bool) : GSem nD τ sig × ℕ × Bool := (kcell x.1, 0, x.2)
theorem tok_inj : Function.Injective tok := fun a b h =>
  Prod.ext (kcell_inj (congrArg Prod.fst h)) (congrArg (fun y : GSem nD τ sig × ℕ × Bool => y.2.2) h)
def ringToks : Finset (GSem nD τ sig × ℕ × Bool) := Finset.univ.map ⟨tok, tok_inj⟩

def u₀ : UU := (initOf (Pipeline.cells cfgs cellOf_inj) (Pipeline.launchToks cfgs cellOf_inj), initOf ringCells ringToks)

/-- The rights to pay at a device's own cells. -/
def toks (c : Dev nD) : sProp 𝕄 :=
  bigSep Finset.univ fun k : Fin 249 => bigSep Finset.univ fun b : Bool => dutyTok ER (kcell (c, k)) 0 b

/-- A device's part of what is minted. -/
def G (c : Dev nD) : sProp 𝕄 :=
  iprop((bigSep Finset.univ fun k : Fin 249 => roundState ER (sched (F := F) m) (kcell (c, k)) 0)
    ∗ (bigSep Finset.univ fun k : Fin 249 => reached ER (kcell (c, k)) 0)
    ∗ (bigSep Finset.univ fun k : Fin 249 => atP (F := F) (kcell (c, k))) ∗ toks (F := F) c)

theorem over_cells (Φ : GSem nD τ sig → sProp 𝕄) :
    bigSep ringCells Φ = bigSep Finset.univ fun c : Dev nD => bigSep Finset.univ fun k : Fin 249 => Φ (kcell (c, k)) := by
  unfold ringCells; rw [bigSep_map, bigSep_univ_prod]; rfl
theorem over_toks (Φ : GSem nD τ sig × ℕ × Bool → sProp 𝕄) :
    bigSep ringToks Φ = bigSep Finset.univ fun c : Dev nD => bigSep Finset.univ fun k : Fin 249 => bigSep Finset.univ fun b : Bool => Φ (kcell (c, k), 0, b) := by
  unfold ringToks; rw [bigSep_map, bigSep_univ_prod, bigSep_univ_prod]; rfl

theorem fund_ring : BI.own (ER (initOf ringCells ringToks)) ⊢ (|==> bigSep Finset.univ (G m) : sProp 𝕄) := by
  refine (Rounds.fund ER (sched (F := F) m) ringCells ringToks).trans (BI.bupd_mono (ofEq ?_))
  unfold G toks
  rw [over_cells, over_cells, over_cells, over_toks, bigSep_sep', bigSep_sep', bigSep_sep']

/-! ## Opening the cells -/

theorem ownSems0_eq (c : Dev nD) : (Pipeline.ownSems0 (Ix := Unit) (Name := ℕ) (U := UU) (Lvl := ℕ) (Val := Elt F) (τ := τ) osem c : sProp 𝕄)
    = each4 c (fun g => zero (F := F) g) := own_split c fun g => zero (F := F) g
theorem unscopedSems0_eq (c : Dev nD) : (unscopedSems0 c : sProp 𝕄) = zero (F := F) (barC c) := by
  unfold unscopedSems0; rw [bigSep_eq_bigSepL_of_eq [SemLoc.reg barS.sem] (by decide) (by decide)]; rfl

/-- What every device holds once its cells are open. -/
def opened (c : Dev nD) : sProp 𝕄 :=
  iprop((bigSep Finset.univ fun k : Fin 249 => cellOk ER (sched (F := F) m) (kcell (c, k)))
    ∗ (bigSep Finset.univ fun k : Fin 249 => atP (F := F) (kcell (c, k))) ∗ toks (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  have e : iprop(each4 c (fun g => zero (F := F) g) ∗ zero (F := F) (barC c) ∗ G m c)
      = iprop((bigSep Finset.univ fun k : Fin 249 => iprop(zero (F := F) (kcell (c, k)) ∗ roundState ER (sched (F := F) m) (kcell (c, k)) 0))
        ∗ (bigSep Finset.univ fun k : Fin 249 => reached ER (kcell (c, k)) 0)
        ∗ (bigSep Finset.univ fun k : Fin 249 => atP (F := F) (kcell (c, k))) ∗ toks (F := F) c) := by
    unfold G
    rw [bigSep_sep', cells_split c fun g => zero (F := F) g]
    ac_rfl
  have e' : opened m c = iprop((bigSep Finset.univ fun k : Fin 249 => iprop(∃ κ, cellInv ER (sched (F := F) m) κ (kcell (c, k))))
        ∗ (bigSep Finset.univ fun k : Fin 249 => reached ER (kcell (c, k)) 0)
        ∗ (bigSep Finset.univ fun k : Fin 249 => atP (F := F) (kcell (c, k))) ∗ toks (F := F) c) := by
    unfold opened cellOk; rw [bigSep_sep', sepA]
  rw [ownSems0_eq, unscopedSems0_eq, e, e']
  exact open_frame (bigSep_mono fun k _ => (Rounds.body_intro ER (sched (F := F) m) (kcell (c, k))).trans inv_alloc) _

/-! ## Dealing the rights to pay -/

/-- What is paid at the receiving cells moves to the device that sends. -/
theorem around (Φ : ℕ → Dev nD → sProp 𝕄) : (bigSep Finset.univ fun c : Dev nD => bigSep (Finset.range 4) fun i => Φ i c)
    = bigSep Finset.univ fun c : Dev nD => bigSep (Finset.range 4) fun i => Φ i (tgt i c) := by
  rw [bigSep_swap Finset.univ (Finset.range 4), bigSep_swap Finset.univ (Finset.range 4)]
  exact bigSep_congr fun i _ => bigSep_univ_equiv (dirE i) (Φ i)

abbrev tk (g : GSem nD τ sig) : sProp 𝕄 := dutyTok ER g 0 false

/-- The rights to pay device `c` uses. -/
def pays (c : Dev nD) : sProp 𝕄 :=
  iprop((bigSep (Finset.range 4) fun i => bigSep (Finset.range 15) fun s => tk (F := F) (xsC c i s))
    ∗ (bigSep (Finset.range 4) fun i => bigSep (Finset.range 15) fun s => tk (F := F) (xrC (tgt i c) i s))
    ∗ (bigSep (Finset.range 4) fun i => bigSep (Finset.range 16) fun s => tk (F := F) (psC c i s))
    ∗ (bigSep (Finset.range 4) fun i => bigSep (Finset.range 16) fun s => tk (F := F) (prC (tgt i c) i s))
    ∗ tk (F := F) (barC (lft c)) ∗ dutyTok ER (barC (rgt c)) 0 true)

theorem toks_eq (c : Dev nD) : toks (F := F) c
    ⊢ iprop(each4 c (fun g => tk (F := F) g) ∗ tk (F := F) (barC c) ∗ dutyTok ER (barC c) 0 true) := by
  have e : toks (F := F) c = iprop((each4 c (fun g => tk (F := F) g) ∗ tk (F := F) (barC c) ∗ dutyTok ER (barC c) 0 true)
      ∗ each4 c (fun g => (dutyTok ER g 0 true : sProp 𝕄))) := by
    unfold toks
    rw [show (fun k : Fin 249 => bigSep Finset.univ fun b : Bool => (dutyTok ER (kcell (c, k)) 0 b : sProp 𝕄))
        = fun k => iprop(tk (F := F) (kcell (c, k)) ∗ dutyTok ER (kcell (c, k)) 0 true) from funext fun k => by
      rw [show (Finset.univ : Finset Bool) = {false, true} by decide, bigSep_insert (by decide), bigSep_singleton]; rfl,
      bigSep_sep', cells_split c fun g => tk (F := F) g, cells_split c fun g => (dutyTok ER g 0 true : sProp 𝕄)]
    ac_rfl
  rw [e]; exact sep_elim_left

theorem dealt : bigSep Finset.univ (toks (F := F)) ⊢ bigSep Finset.univ (pays (F := F)) := by
  refine (bigSep_mono fun c _ => toks_eq (F := F) c).trans (ofEq ?_)
  unfold each4 pays
  simp only [bigSep_sep']
  rw [around fun i c => bigSep (Finset.range 15) fun s => tk (F := F) (xrC c i s), around fun i c => bigSep (Finset.range 16) fun s => tk (F := F) (prC c i s),
    bigSep_univ_equiv ring.symm fun c : Dev nD => tk (F := F) (barC c), bigSep_univ_equiv ring fun c : Dev nD => (dutyTok ER (barC c) 0 true : sProp 𝕄)]
  simp only [sepA]
  rfl

/-- A device's part: the records, its positions and its rights to pay. -/
def G' (c : Dev nD) : sProp 𝕄 :=
  iprop(recs (F := F) m ∗ (each4 c (fun g => atP (F := F) g) ∗ atP (F := F) (barC c)) ∗ pays (F := F) c)

theorem regroup : bigSep Finset.univ (opened m) ⊢ bigSep Finset.univ (G' m) := by
  have e : bigSep Finset.univ (opened m) = iprop(recs (F := F) m
      ∗ (bigSep Finset.univ fun c : Dev nD => iprop(each4 c (fun g => atP (F := F) g) ∗ atP (F := F) (barC c))) ∗ bigSep Finset.univ (toks (F := F))) := by
    unfold opened recs
    rw [bigSep_sep', bigSep_sep', bigSep_univ_prod]
    rw [show (fun c : Dev nD => bigSep Finset.univ fun k : Fin 249 => atP (F := F) (kcell (c, k)))
      = fun c => iprop(each4 c (fun g => atP (F := F) g) ∗ atP (F := F) (barC c)) from funext fun c => cells_split c fun g => atP (F := F) g]
  have e' : bigSep Finset.univ (G' m) = iprop((bigSep Finset.univ fun _ : Dev nD => recs (F := F) m)
      ∗ (bigSep Finset.univ fun c : Dev nD => iprop(each4 c (fun g => atP (F := F) g) ∗ atP (F := F) (barC c))) ∗ bigSep Finset.univ (pays (F := F))) := by
    unfold G'; rw [bigSep_sep', bigSep_sep']
  rw [e, e']
  exact BI.sep_mono (BI.bigSep_of_persistent _ _) (BI.sep_mono (BI.Entails.refl _) dealt)

theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

/-- The credits device `c` is launched with. -/
def creds (c : Dev nD) : sProp 𝕄 :=
  iprop(cred (tallyAt (barC c) () 2)
    ∗ bigSep (Finset.range 4) fun i => iprop(bigSep (Finset.range 15) (fun s => cred (tallyAt (xrC c i s) () NX))
        ∗ bigSep (Finset.range 15) (fun s => cred (tallyAt (prC c i (1 + s)) () NP))))

abbrev lc (k : ℕ) (c : Dev nD) : sProp 𝕄 := Pipeline.launchCred (fun d => due d k) c

theorem lc_x {i s : ℕ} (hi : i < 4) (hs : s < 15) (c : Dev nD) : lc (F := F) (2 * (4 * s + i)) c ⊢ cred (tallyAt (xrC c i s) () NX) := by
  have e : (fun d : Dev nD => due d (2 * (4 * s + i))) = fun d => tallyAt (xrC (tgt i d) i s) () NX := funext fun d => due_x d hi hs
  unfold lc; rw [e]
  exact Pipeline.launchCred_tallyAt (.dma (xrS i s).sem) (tgt i) (src i) (tgt_src i) (src_tgt i) () NX c
theorem lc_p {i s : ℕ} (hi : i < 4) (hs : 1 ≤ s) (c : Dev nD) : lc (F := F) (2 * (4 * s + i) + 1) c ⊢ cred (tallyAt (prC c i s) () NP) := by
  have e : (fun d : Dev nD => due d (2 * (4 * s + i) + 1)) = fun d => tallyAt (prC (tgt i d) i s) () NP := funext fun d => due_a d hi hs
  unfold lc; rw [e]
  exact Pipeline.launchCred_tallyAt (.dma (prS i s).sem) (tgt i) (src i) (tgt_src i) (src_tgt i) () NP c

/-- The payments in order, pipe by pipe. -/
theorem pipes (Φ : ℕ → sProp 𝕄) : bigSep (Finset.range 128) Φ
    = bigSep (Finset.range 4) fun i => iprop((bigSep (Finset.range 16) fun s => Φ (2 * (4 * s + i))) ∗ bigSep (Finset.range 16) fun s => Φ (2 * (4 * s + i) + 1)) := by
  rw [show 128 = 16 * (4 * 2) from rfl, bigSep_range_mul]
  simp only [bigSep_range_mul 4 2]
  rw [bigSep_swap]
  refine bigSep_congr fun i _ => ?_
  rw [← bigSep_sep']
  refine bigSep_congr fun s _ => ?_
  rw [bigSep_range_succ, bigSep_range_succ, Finset.range_zero, bigSep_empty]
  show iprop(Φ _ ∗ Φ _ ∗ emp) = _
  rw [sepE, sepC]
  congr 2 <;> omega

theorem creds_intro (c : Dev nD) : (Pipeline.launchCred O₀ c : sProp 𝕄) ⊢ creds (F := F) c := by
  have e : (Pipeline.launchCred O₀ c : sProp 𝕄) = iprop((bigSep (Finset.range 128) (fun k => lc (F := F) k c)
      ∗ Pipeline.launchCred (fun d => tallyAt (barC (rgt d)) () 1) c) ∗ Pipeline.launchCred (fun d => tallyAt (barC (lft d)) () 1) c) := by
    rw [show O₀ = fun d => ((fun d => (fun d => O d 0) d + (fun d => tallyAt (barC (rgt d)) () 1) d) d) + (fun d => tallyAt (barC (lft d)) () 1) d from rfl,
      Pipeline.launchCred_add, Pipeline.launchCred_add]
    unfold O
    rw [Pipeline.launchCred_sum]
    rw [Nat.Ico_zero_eq_range]
  have hb : iprop(Pipeline.launchCred (fun d => tallyAt (barC (rgt d)) () 1) c ∗ Pipeline.launchCred (fun d => tallyAt (barC (lft d)) () 1) c)
      ⊢ (cred (tallyAt (barC c) () 2) : sProp 𝕄) :=
    (BI.sep_mono (Pipeline.launchCred_tallyAt (.reg barS.sem) rgt lft rgt_lft lft_rgt () 1 c)
      (Pipeline.launchCred_tallyAt (.reg barS.sem) lft rgt lft_rgt rgt_lft () 1 c)).trans
      ((cred_add _ _).2.trans (Entails.of_eq (congrArg cred (tallyAt_add (barC c) () 1 1))))
  unfold creds
  rw [e, pipes, sepA, sepC]
  refine BI.sep_mono hb (bigSep_mono fun i hi => BI.sep_mono ?_ ?_)
  · rw [bigSep_range_succ]
    exact (dropL _ _).trans (bigSep_mono fun s hs => lc_x (Finset.mem_range.mp hi) (Finset.mem_range.mp hs) c)
  · rw [show (16 : ℕ) = 1 + 15 from rfl, range_first]
    exact (dropL _ _).trans (bigSep_mono fun s hs => lc_p (Finset.mem_range.mp hi) (Nat.le_add_right 1 s) c)

/-! ## A device's ghost state -/

theorem ghost_of (c : Dev nD) : iprop(((each4 c (fun g => atP (F := F) g) ∗ atP (F := F) (barC c)) ∗ pays (F := F) c) ∗ creds (F := F) c)
    ⊢ iprop(barG (F := F) c ∗ bigSep (Finset.range 4) (Gh (F := F) c)) := by
  have h16 (Φ : ℕ → sProp 𝕄) : bigSep (Finset.range 16) Φ = iprop(Φ 0 ∗ bigSep (Finset.range 15) fun s => Φ (1 + s)) := range_first 15 Φ
  refine (Entails.of_eq (?_ : _ = iprop((barG (F := F) c ∗ bigSep (Finset.range 4) (Gh (F := F) c))
    ∗ (bigSep (Finset.range 4) fun i => tk (F := F) (psC c i 0)) ∗ bigSep (Finset.range 4) fun i => tk (F := F) (prC (tgt i c) i 0)))).trans sep_elim_left
  unfold each4 pays creds barG Gh RX RP
  simp only [tk, h16, bigSep_sep']
  ac_rfl

end Cert.KernelIdealPf

end
-- ==== Proof.IProgEq.lean ====
/-
The printed kernel is that composition: by unfolding.
-/
module

public import proofs.«01_k».proof.Proof.IProg
public import Idealize.ShloMosaic.Lib.Pipeline.Regions

@[expose] public section

noncomputable section

namespace Cert.KernelIdealPf

open Cert.KernelIdeal Cert.KernelIdeal.Gen
open Idealize.ShloMosaic Idealize.ShloMosaic.TcCoe Idealize.SL.Sem

variable {F : FTy → Type} [FloatOps F]

theorem body_eq : cc0_body (F := F) xM (Memref.isWhole_whole _) aM (Memref.isWhole_whole _) bM (Memref.isWhole_whole _) oM (Memref.isWhole_whole _)
    gM (Memref.isWhole_whole _) pM (Memref.isWhole_whole _) cc0_scratch2 cc0_scratch3 cc0_scratch4 cc0_scratch5 = prog := by
  chain_rfl

end Cert.KernelIdealPf

end
-- ==== Proof.ILaunch.lean ====
/-
The launch: what each device's core starts from and ends at, the body's obligation, and the run of the whole mesh.
-/
module

public import proofs.«01_k».proof.Proof.IFund
public import proofs.«01_k».proof.Proof.IProgEq
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 200000

noncomputable section

namespace Cert.KernelIdealPf

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The core's assertions -/

/-- What a device's body starts from, beside its buffers. -/
def start (c : Dev nD) : sProp 𝕄 := iprop(ctx (F := F) m ∗ barG (F := F) c ∗ bigSep (Finset.range 4) (Gh (F := F) c))
def Φ₀ (c : Dev nD) : sProp 𝕄 := iprop(start m c ∗ bigSep (Finset.range 4) (scr (F := F) c))
/-- What it ends at: every cell closed, the slots its own again. -/
def Φ₁ (c : Dev nD) : sProp 𝕄 :=
  iprop(zero (F := F) (barC c) ∗ bigSep (Finset.range 4) (zs (F := F) c) ∗ bigSep (Finset.range 4) (scr (F := F) c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => astg m c
    | ⟨2, _⟩ => bstg m c
    | ⟨3, _⟩ => outV m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body -/

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ (F := F) c ∗ (dats m 0 c).owesAt () t0_0.succ ∗ stg c cc0_stg0_0 (xstg m c) ∗ stg c cc0_stg1_0 (astg m c) ∗ stg c cc0_stg2_0 (bstg m c)
    ∗ stg c cc0_stg3_0 (outV m c))

theorem owes_in (c : Dev nD) : ((dats m 0 c).owesAt () t0_0.castSucc : sProp 𝕄) ⊢ iprop(∃ W, owes (c : Thread nD τ) (O₀ c) W) := by
  unfold Dat.owesAt Pipeline.owesWithin
  iintro ⟨%W, -, HO⟩
  iexists W; iexact HO
theorem owes_out (c : Dev nD) : iprop(∃ W, owes (c : Thread nD τ) 0 W) ⊢ ((dats m 0 c).owesAt () t0_0.succ : sProp 𝕄) := by
  unfold Dat.owesAt Pipeline.owesWithin
  iintro ⟨%W, HO⟩
  iexists W
  isplitr; · ipureintro; exact fun _ _ => Or.inl trivial
  iexact HO

theorem out_done (c : Dev nD) : bigSep (Finset.range 4) (fun i => oO (F := F) c i (res m c i)) ⊢ stg c cc0_stg3_0 (outV m c) := by
  iintro H
  ihave H := (out_join m c) $$ H
  unfold stg
  rw [← owns_whole_ex]
  iexact H

theorem body_wp (c : Dev nD) : bodyPre m c ⊢ wp frame (wpE (defs₀ (F := F)) 𝒱₀ c none) Set.univ prog (fun _ => bodyPost m c) := by
  unfold bodyPre Φ₀ start stg
  iintro ⟨⟨⟨HC, Hb, Hg⟩, Hs⟩, HO, ⟨%d0, %g0, %h0, Hx⟩, ⟨%d1, %g1, %h1, Ha⟩, ⟨%d2, %g2, %h2, Hw⟩, ⟨%d3, %g3, %h3, Hout⟩⟩
  have e0 : g0 = xstg m c := by rw [h0]; unfold Dat.before; rw [if_pos (fetch0_0 t0_0)]; rfl
  have e1 : g1 = astg m c := by rw [h1]; unfold Dat.before; rw [if_pos (fetch0_1 t0_0)]; rfl
  have e2 : g2 = bstg m c := by rw [h2]; unfold Dat.before; rw [if_pos (fetch0_2 t0_0)]; rfl
  subst e0; subst e1; subst e2
  ihave HO := (owes_in m c) $$ HO
  ihave Ho := (out_split c g3) $$ [Hout]
  · rw [owns_whole_ex]
    iexists g3
    isplitr; · ipureintro; rfl
    iexact Hout
  iapply (prog_wp m c (fun _ => bodyPost m c)) $$ [HC HO Hx Ha Hw Hb Hs Hg Ho]
  · isplitl [HC]; · iexact HC
    isplitl [HO]; · iexact HO
    isplitl [Hx Ha Hw]
    · unfold ops
      isplitl [Hx]; · iexact Hx
      isplitl [Ha]; · iexact Ha
      iexact Hw
    isplitl [Hb]; · iexact Hb
    isplitl [Hs]; · iexact Hs
    isplitl [Hg]; · iexact Hg
    iexact Ho
  iintro Hz Hzs Hs Ho HO Hops
  unfold ops
  icases Hops with ⟨Hx, Ha, Hw⟩
  ihave Hout := (out_done m c) $$ Ho
  ihave HO := (owes_out m c) $$ HO
  unfold bodyPost Φ₁
  isplitl [Hz Hzs Hs]
  · isplitl [Hz]; · iexact Hz
    isplitl [Hzs]; · iexact Hzs
    iexact Hs
  isplitl [HO]; · iexact HO
  isplitl [Hx]
  · unfold stg; iexists _; isplitr; · (ipureintro; rfl)
    iexact Hx
  isplitl [Ha]
  · unfold stg; iexists _; isplitr; · (ipureintro; rfl)
    iexact Ha
  isplitl [Hw]
  · unfold stg; iexists _; isplitr; · (ipureintro; rfl)
    iexact Hw
  iexact Hout

theorem stg_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := owns_whole_ex _ _ _ _

theorem body_at : bodyAt0 (F := F) t0_0 = prog := body_eq

theorem body_obligation (c : Dev nD) : BodyObligation (dats (F := F) m 0 c) (defs₀ (F := F)) 𝒱₀ () Set.univ := fun t => by
  rw [fin_N0 t, bigSep_W0, bigSep_W0]
  simp only [stg_eq]
  have hb : defs₀ (F := F) Proc.tc 0 (t0_0, cfg0.slots t0_0) = prog := (show _ = bodyAt0 t0_0 from rfl).trans body_at
  rw [hb]
  exact body_wp m c

/-! ## The launch -/

theorem stage_sem : ∀ (w : Fin cfg0.W) (s), ((cfg0.win w).sem s).val < 4 := by decide

theorem ownSemFacts : Pipeline.OwnSemFacts cfg0.spec osem where
  isScoped := by decide
  inj k k' h := by
    have hv : 4 + k.val = 4 + k'.val := congrArg Fin.val (SemLoc.dma.inj h)
    exact Fin.ext (by omega)
  disj k w s h := by
    have hv : 4 + k.val = ((cfg0.win w).sem s).val := congrArg Fin.val (SemLoc.dma.inj h)
    have := stage_sem w s
    omega

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  unfold G'
  icases HG with ⟨HR, Hat, Hp⟩
  ihave Hg := (ghost_of (F := F) c) $$ [Hat Hp Hc]
  · isplitl [Hat Hp]
    · isplitl [Hat]; · iexact Hat
      iexact Hp
    iexact Hc
  imodintro
  unfold start ctx
  isplitl
  · isplitl [HR Hlev]
    · isplitl [HR]; · iexact HR
      iexact Hlev
    iexact Hg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H1, H2⟩
  isplitl [Hs]; · iexact Hs
  ihave H1 := (any_of_whole (c : Thread nD τ) cc0_scratch0) $$ H1
  ihave H2 := (any_of_whole (c : Thread nD τ) cc0_scratch1) $$ H2
  iapply (scr_split (F := F) c)
  isplitl [H1]; · iexact H1
  iexact H2

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁
  iintro ⟨Hz, Hzs, Hs⟩
  isplitl [Hz]; · iexact Hz
  isplitl [Hzs]
  · unfold each4 zs
    simp only [bigSep_sep']
    iexact Hzs
  ihave Hs := (scr_join (F := F) c) $$ Hs
  icases Hs with ⟨H1, H2⟩
  isplitl [H1]
  · iapply (whole_of_any (c : Thread nD τ) cc0_scratch0); iexact H1
  iapply (whole_of_any (c : Thread nD τ) cc0_scratch1); iexact H2

theorem mayWait_any (c : Dev nD) (sm : SemLoc sig) (h : lv ((c : Thread nD τ), sm) () = 0) (O' : CellTallies nD τ sig Unit)
    (hO : O' = O₀ c ∨ O' = 0) : (levAts L lv : sProp 𝕄) ⊢ MayWait (c : Thread nD τ) sm () O' := by
  rcases hO with rfl | rfl
  · exact mayWait₀ c sm h
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_any c _ (by
      show lvq ((cfg0.win w).sem s).val = 0
      have : ((cfg0.win w).sem s).val < 4 := stage_sem w s
      unfold lvq; exact if_pos (lt_trans this (by decide))) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem main_eq (c : Dev nD) : main (F := F) c = .op (.customCall (Pipeline.entry 0) ()) fun _ => .ret ⟨⟩ := by
  rw [main_chain]; rfl

/-- From any memory with zero counters, every weakly fair execution of the mesh terminates, every array at its computed
    contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := main_eq)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem final_in (c : Dev nD) (w : Fin cfg0.W) (h : (cfg0.win w).isOut = false) : finalA m c w = m ((cfg0.win w).arr.view.loc (c : Thread nD τ)) :=
  (dats (F := F) m 0 c).arrAt_in w h _

/-- The arguments end as they were, every counter at zero. -/
theorem quiet : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨(h.1 c 0).trans (final_in m c 0 rfl), (h.1 c 1).trans (final_in m c 1 rfl),
    (h.1 c 2).trans (final_in m c 2 rfl)⟩, h.2⟩) (run_main m ρ)

end Cert.KernelIdealPf

end
-- ==== Proof.Alg.lean ====
/-
Arithmetic of the extended reals that the two algebraic claims need, free of any program: the activation function in its
two spellings, the clip that changes nothing on a bounded argument, Cauchy–Schwarz for an inner product of two vectors
whose squares have bounded sums, and a sum cut into equal parts.
-/
module

public import Idealize.ShloMosaic.PureOps
public import Idealize.ShloMosaic.PureOps.Ideal.Laws
public import Idealize.ShloMosaic.Lib.IdealHost
public import Mathlib.Algebra.Order.BigOperators.Ring.Finset
public import Mathlib.Data.EReal.Operations
public import Mathlib.Logic.Equiv.Fin.Basic

@[expose] public section

noncomputable section

namespace Cert.Alg

open Idealize.ShloMosaic

/-- The activation `h · 1 / (1 + e^(-h))`. -/
def silu (h : EReal) : EReal := h * Ideal.logistic h

theorem exp_nonneg (x : EReal) : 0 ≤ Ideal.exp x := by
  induction x with
  | bot => exact le_refl _
  | top => exact le_top
  | coe r => exact EReal.coe_nonneg.2 (Real.exp_pos r).le

theorem one_add_exp_ne (x : EReal) : 1 + Ideal.exp x ≠ 0 := by
  have h : (1 : EReal) ≤ 1 + Ideal.exp x := by simpa using add_le_add_right (exp_nonneg x) (1 : EReal)
  exact (lt_of_lt_of_le zero_lt_one h).ne'

/-- The quotient `h / (1 + e^(-h))` is the same function. -/
theorem silu_div (h : EReal) : Ideal.div h (1 + Ideal.exp (-h)) = silu h :=
  (Ideal.mul_one_div (one_add_exp_ne (-h))).symm

/-- With the exponent's argument clipped to `[-60, 60]` too, as long as the argument is in there. -/
theorem silu_clip {h : EReal} (hl : ((-60 : ℝ) : EReal) ≤ h) (hu : h ≤ ((60 : ℝ) : EReal)) :
    Ideal.div h (1 + Ideal.exp (-(min ((60 : ℝ) : EReal) (max ((-60 : ℝ) : EReal) h)))) = silu h := by
  rw [max_eq_right hl, min_eq_right hu]
  exact silu_div h

/-- A bounded sum of squares has finite terms. -/
theorem ne_of_sum_sq {n : ℕ} {x : Fin n → EReal} {B : ℝ} (h : ∑ l, x l * x l ≤ (B : EReal)) (l : Fin n) : x l ≠ ⊤ ∧ x l ≠ ⊥ := by
  have hsq (a : EReal) : 0 ≤ a * a := by
    induction a with
    | bot => simp
    | top => simp
    | coe r => exact_mod_cast mul_self_nonneg r
  have hl : x l * x l ≤ (B : EReal) := (Finset.single_le_sum (f := fun l => x l * x l) (fun i _ => hsq (x i)) (Finset.mem_univ l)).trans h
  constructor <;> intro e <;> rw [e] at hl
  · rw [EReal.top_mul_top] at hl; exact absurd (top_le_iff.1 hl) (EReal.coe_ne_top B)
  · rw [EReal.bot_mul_bot] at hl; exact absurd (top_le_iff.1 hl) (EReal.coe_ne_top B)

theorem coe_sum {n : ℕ} (f : Fin n → ℝ) : ((∑ l, f l : ℝ) : EReal) = ∑ l, (f l : EReal) := by
  induction n with
  | zero => simp
  | succ n ih => rw [Fin.sum_univ_succ, Fin.sum_univ_succ, EReal.coe_add, ih]

/-- Cauchy–Schwarz: an inner product is at most `60` in magnitude when the sums of squares are at most `1600` and `2.25`. -/
theorem inner_bounded {n : ℕ} {x w : Fin n → EReal} (hx : ∑ l, x l * x l ≤ ((1600 : ℝ) : EReal)) (hw : ∑ l, w l * w l ≤ ((9 / 4 : ℝ) : EReal)) :
    ((-60 : ℝ) : EReal) ≤ ∑ l, x l * w l ∧ ∑ l, x l * w l ≤ ((60 : ℝ) : EReal) := by
  obtain ⟨a, rfl⟩ : ∃ a : Fin n → ℝ, x = fun l => (a l : EReal) :=
    ⟨fun l => (x l).toReal, funext fun l => (EReal.coe_toReal (ne_of_sum_sq hx l).1 (ne_of_sum_sq hx l).2).symm⟩
  obtain ⟨b, rfl⟩ : ∃ b : Fin n → ℝ, w = fun l => (b l : EReal) :=
    ⟨fun l => (w l).toReal, funext fun l => (EReal.coe_toReal (ne_of_sum_sq hw l).1 (ne_of_sum_sq hw l).2).symm⟩
  simp only [← EReal.coe_mul, ← coe_sum, EReal.coe_le_coe_iff] at hx hw ⊢
  have hcs := Finset.sum_mul_sq_le_sq_mul_sq Finset.univ a b
  simp only [pow_two] at hcs
  have ha : 0 ≤ ∑ l, a l * a l := Finset.sum_nonneg fun l _ => mul_self_nonneg _
  have hb : 0 ≤ ∑ l, b l * b l := Finset.sum_nonneg fun l _ => mul_self_nonneg _
  have h2 : (∑ l, a l * b l) * (∑ l, a l * b l) ≤ 1600 * (9 / 4) := hcs.trans (mul_le_mul hx hw hb (by norm_num))
  constructor <;> nlinarith

/-- One entry of the two-layer map: the inner products with the first layer's columns, the activation, the inner product
    with a column of the second layer. -/
def mlpAt {p n : ℕ} (x : Fin p → EReal) (A : Fin p → Fin n → EReal) (B : Fin n → EReal) : EReal := ∑ k, silu (∑ l, x l * A l k) * B k

/-- A sum over `N = p · n` indices, part by part. -/
theorem sum_parts {p n N : ℕ} (h : p * n = N) (f : Fin N → EReal) (lt : ∀ (d : Fin p) (k : Fin n), d.val * n + k.val < N) :
    ∑ K, f K = ∑ d : Fin p, ∑ k : Fin n, f ⟨d.val * n + k.val, lt d k⟩ := by
  subst h
  rw [← finProdFinEquiv.sum_comp, Fintype.sum_prod_type]
  refine Finset.sum_congr rfl fun d _ => Finset.sum_congr rfl fun k _ => congrArg f (Fin.ext ?_)
  show k.val + n * d.val = d.val * n + k.val
  rw [Nat.mul_comm, Nat.add_comm]

end Cert.Alg

end
-- ==== Proof.IValue.lean ====
/-
What the kernel leaves in its result array, as sums: the entry at row `r` and column `q` of device `c`'s block is the sum
over the devices `d` of the two-layer map of `c`'s row `r` with `d`'s blocks of the two weights.
-/
module

public import proofs.«01_k».proof.Proof.ILaunch
public import proofs.«01_k».proof.Proof.Alg
public import Idealize.ShloMosaic.Lib.Pointwise
public import Idealize.ShloMosaic.Lib.Pipeline.ValueKit

@[expose] public section

noncomputable section

namespace Cert.KernelIdealPf

open Cert.KernelIdeal Cert.KernelIdeal.Gen Cert.Common Cert.Alg
open Idealize.ShloMosaic Idealize.ShloMosaic.TcCoe Idealize.ShloMosaic.Pipeline

/-! ## The arrays' blocks are the arrays -/

section Any

variable {F : FTy → Type} [FloatOps F] (m : (ℓ : Loc nD τ sig) → Buf (Elt F) ℓ)

theorem xstg_eq (c : Dev nD) : xstg m c = m ((c : Thread nD τ).loc main_arg0) := by
  have e0 : win0_0.index (0 : Fin 1) 0 = 0 := by decide +kernel
  have e1 : win0_0.index (0 : Fin 1) 1 = 0 := by decide +kernel
  funext j
  unfold xstg
  blk_simp
  exact congrArg _ (by blk_ext [e0, e1])
theorem astg_eq (c : Dev nD) : astg m c = m ((c : Thread nD τ).loc main_arg1) := by
  have e0 : win0_1.index (0 : Fin 1) 0 = 0 := by decide +kernel
  have e1 : win0_1.index (0 : Fin 1) 1 = 0 := by decide +kernel
  funext j
  unfold astg
  blk_simp
  exact congrArg _ (by blk_ext [e0, e1])
theorem bstg_eq (c : Dev nD) : bstg m c = m ((c : Thread nD τ).loc main_arg2) := by
  have e0 : win0_2.index (0 : Fin 1) 0 = 0 := by decide +kernel
  have e1 : win0_2.index (0 : Fin 1) 1 = 0 := by decide +kernel
  funext j
  unfold bstg
  blk_simp
  exact congrArg _ (by blk_ext [e0, e1])

theorem final_out (c : Dev nD) : finalA m c 3 = outV m c := by
  refine (dats m 0 c).arrAt_eq_of_after_last 3 t0_0 (by decide +kernel) _ fun j => ?_
  blk_simp
  rfl

/-! ## Once round the ring -/

theorem src_iter (i : ℕ) (c : Dev nD) : (src i)^[16] c = c := by
  unfold src dirE
  rcases Nat.mod_two_eq_zero_or_one i with h | h <;> rw [h] <;> revert c <;> decide +kernel

theorem XV_iter (i s : ℕ) (c : Dev nD) : XV m i s c = xblk m ((src i)^[s] c) i := by
  induction s generalizing c with
  | zero => rfl
  | succ s ih => exact ih (src i c)

end Any

variable (m : (ℓ : Loc nD τ sig) → Buf (Elt Ideal) ℓ)

theorem AV_sum (i s : ℕ) (c : Dev nD) (j : S128x512.Idx) :
    AV m i (s + 1) c j = ∑ t ∈ Finset.range (s + 1), term m ((src i)^[t] c) (xblk m ((src i)^[s + 1] c) i) j := by
  induction s generalizing c with
  | zero => simp [AV, XV_iter]
  | succ s ih =>
    rw [Finset.sum_range_succ']
    show AV m i (s + 1) (src i c) j + term m c (XV m i (s + 2) c) j = _
    rw [ih, XV_iter]
    rfl

/-- The device's neighbours in one direction, one step after another, are all the devices. -/
theorem sum_ring (i : ℕ) (c : Dev nD) (f : Dev nD → EReal) : ∑ t ∈ Finset.range 16, f ((src i)^[t] c) = ∑ d, f d := by
  have hb : Function.Bijective fun t : Fin 16 => (src i)^[t.val] c := by
    refine (Fintype.bijective_iff_injective_and_card _).2 ⟨?_, rfl⟩
    unfold src dirE
    rcases Nat.mod_two_eq_zero_or_one i with h | h <;> rw [h] <;> revert c <;> decide +kernel
  rw [Finset.sum_range]
  exact hb.sum_comp f

theorem res_sum (c : Dev nD) (i : ℕ) (j : S128x512.Idx) : res m c i j = ∑ d, term m d (xblk m c i) j := by
  show AV m i 15 (src i c) j + term m c (XV m i 0 c) j = _
  rw [AV_sum m i 14, ← sum_ring i c fun d => term m d (xblk m c i) j, Finset.sum_range_succ' _ 15]
  show _ + term m c (xblk m c i) j = _
  rw [show (src i)^[14 + 1] (src i c) = c from src_iter i c]
  rfl

/-! ## At an index -/

theorem term_at (c : Dev nD) (v : FVec Ideal S128x512 .f32) (r : Fin 128) (q : Fin 512) :
    term m c v (ix2 r q) = mlpAt (fun l => v (ix2 r l)) (fun l k => m ((c : Thread nD τ).loc main_arg1) (ix2 l k))
      (fun k => m ((c : Thread nD τ).loc main_arg2) (ix2 k q)) := by
  unfold mlpAt silu
  rw [← astg_eq m c, ← bstg_eq m c]
  pointwise [term, mlp]

theorem xblk_at (c : Dev nD) (t : Fin 4) (r : Fin 128) (l : Fin 512) :
    xblk m c t.val (ix2 r l) = m ((c : Thread nD τ).loc main_arg0) ((rows t).emb (ix2 r l)) := by
  rw [← xstg_eq m c]
  pointwise [xblk, same]
  rfl

theorem rows_emb (t : Fin 4) (r : Fin 128) (l : Fin 512) :
    (rows t).emb (ix2 r l) = ix2 ⟨rowOf t.val + r.val, by have := rowOf_le t.val; omega⟩ l := by
  funext a
  match a with
  | ⟨0, _⟩ => exact Fin.ext (by show rowOf t.val + 1 * r.val = rowOf t.val + r.val; omega)
  | ⟨1, _⟩ => exact Fin.ext (by show 0 + 1 * l.val = l.val; omega)

/-- The result block, entry by entry. -/
theorem outV_at (c : Dev nD) (r q : Fin 512) :
    outV m c (ix2 r q) = ∑ d : Dev nD, mlpAt (fun l => m ((c : Thread nD τ).loc main_arg0) (ix2 r l))
      (fun l k => m ((d : Thread nD τ).loc main_arg1) (ix2 l k)) (fun k => m ((d : Thread nD τ).loc main_arg2) (ix2 k q)) := by
  obtain ⟨h1, h2⟩ := rowOf_pipe r.val r.isLt
  have hr : ix2 r q = (rows ⟨pipeOf r.val, h1⟩).emb (ix2 ⟨r.val % 128, Nat.mod_lt _ (by decide)⟩ q) := by
    rw [rows_emb]
    congr 1
    refine Fin.ext ?_
    show r.val = rowOf (pipeOf r.val) + r.val % 128
    rw [h2]; omega
  have hx (l : Fin 512) : (rows ⟨pipeOf r.val, h1⟩).emb (ix2 ⟨r.val % 128, Nat.mod_lt _ (by decide)⟩ l) = ix2 r l := by
    rw [rows_emb]
    congr 1
    refine Fin.ext ?_
    show rowOf (pipeOf r.val) + r.val % 128 = r.val
    rw [h2]; omega
  rw [hr, outV_emb, res_sum]
  refine Finset.sum_congr rfl fun d _ => ?_
  rw [term_at]
  congr 1
  funext l
  exact (xblk_at m c ⟨pipeOf r.val, h1⟩ _ l).trans (congrArg _ (hx l))

end Cert.KernelIdealPf

end
-- ==== Proof.RValue.lean ====
/-
The two references' results, entry by entry: the two-layer map of a row of `x` with the whole weights, with the activation
each reference spells.
-/
module

public import proofs.«01_k».proof.Proof.Gen.ReferenceIdeal.Run
public import proofs.«01_k».proof.Proof.Gen.SiluReferenceIdeal.Run
public import proofs.«01_k».proof.Proof.Alg
public import Idealize.ShloMosaic.Lib.Pointwise

@[expose] public section

noncomputable section

namespace Cert.RefPf

open Cert.Alg
open Idealize.ShloMosaic Idealize.ShloMosaic.TcCoe

section Clip

open Cert.ReferenceIdeal Cert.ReferenceIdeal.Gen

/-- The reference with the clip, of its three arguments. -/
def clipRef (x : FVec Ideal S8192x512 .f32) (a : FVec Ideal S512x32768 .f32) (b : FVec Ideal S32768x512 .f32) : FVec Ideal S8192x512 .f32 :=
  Host.dotGeneral dot_S8192x32768_S32768x512_S8192x512_1_0_0_1_n_n none (Host.divf (Host.dotGeneral dot_S8192x512_S512x32768_S8192x32768_1_0_0_1_n_n none x a)
    (addf (broadcastInDim S8192x32768 ![] bcast_S_S8192x32768 (constant S_ .f32 0x3F800000#32)) (Host.exp (Host.negf
      (minimumf (broadcastInDim S8192x32768 ![] bcast_S_S8192x32768 (sitofp .f32 (constantI S_ 32 60#32)))
        (maximumf (broadcastInDim S8192x32768 ![] bcast_S_S8192x32768 (sitofp .f32 (constantI S_ 32 4294967236#32)))
          (Host.dotGeneral dot_S8192x512_S512x32768_S8192x32768_1_0_0_1_n_n none x a))))))) b

theorem lo_eq : (((4294967236#32).toInt : ℝ) : EReal) = ((-60 : ℝ) : EReal) := by
  have h : (4294967236#32).toInt = -60 := by decide
  rw [h]; norm_num
theorem hi_eq : (((60#32).toInt : ℝ) : EReal) = ((60 : ℝ) : EReal) := by
  have h : (60#32).toInt = 60 := by decide
  rw [h]; norm_num

theorem clipRef_at (x : FVec Ideal S8192x512 .f32) (a : FVec Ideal S512x32768 .f32) (b : FVec Ideal S32768x512 .f32) (r : Fin 8192) (q : Fin 512)
    (hx : ∑ l : Fin 512, x (ix2 r l) * x (ix2 r l) ≤ ((1600 : ℝ) : EReal))
    (ha : ∀ k : Fin 32768, ∑ l : Fin 512, a (ix2 l k) * a (ix2 l k) ≤ ((9 / 4 : ℝ) : EReal)) :
    clipRef x a b (ix2 r q) = mlpAt (fun l : Fin 512 => x (ix2 r l)) (fun l (k : Fin 32768) => a (ix2 l k)) (fun k => b (ix2 k q)) := by
  pointwise [clipRef]
  unfold mlpAt
  refine Finset.sum_congr rfl fun k _ => ?_
  obtain ⟨hl, hu⟩ := inner_bounded hx (ha k)
  rw [← silu_clip hl hu, ← lo_eq, ← hi_eq]
  rfl

end Clip

section Plain

open Cert.SiluReferenceIdeal Cert.SiluReferenceIdeal.Gen

/-- The reference without the clip. -/
def plainRef (x : FVec Ideal S8192x512 .f32) (a : FVec Ideal S512x32768 .f32) (b : FVec Ideal S32768x512 .f32) : FVec Ideal S8192x512 .f32 :=
  Host.dotGeneral dot_S8192x32768_S32768x512_S8192x512_1_0_0_1_n_n none (Host.divf (Host.dotGeneral dot_S8192x512_S512x32768_S8192x32768_1_0_0_1_n_n none x a)
    (addf (broadcastInDim S8192x32768 ![] bcast_S_S8192x32768 (constant S_ .f32 0x3F800000#32)) (Host.exp (Host.negf
      (Host.dotGeneral dot_S8192x512_S512x32768_S8192x32768_1_0_0_1_n_n none x a))))) b

theorem plainRef_at (x : FVec Ideal S8192x512 .f32) (a : FVec Ideal S512x32768 .f32) (b : FVec Ideal S32768x512 .f32) (r : Fin 8192) (q : Fin 512) :
    plainRef x a b (ix2 r q) = mlpAt (fun l : Fin 512 => x (ix2 r l)) (fun l (k : Fin 32768) => a (ix2 l k)) (fun k => b (ix2 k q)) := by
  pointwise [plainRef]
  unfold mlpAt
  refine Finset.sum_congr rfl fun k _ => ?_
  rw [← silu_div]

end Plain

end Cert.RefPf

end
-- ==== Proof.Bound.lean ====
/-
What the precondition says of a device's blocks: every row of its block of `x` has a sum of squares of at most 1600, every
column of its block of the first weight one of at most 2.25.
-/
module

public import proofs.«01_k».proof.Proof.Gen.Pre_bounded_KernelIdeal
public import Idealize.ShloMosaic.Lib.Pointwise
public import Idealize.ShloMosaic.Lib.ReduceAll

@[expose] public section

noncomputable section

namespace Cert.BoundPf

open Cert.Pre_bounded_KernelIdeal Cert.Pre_bounded_KernelIdeal.Gen
open Idealize.ShloMosaic

theorem row_bound_eq : Ideal.ofBits .f32 0x44C80000#32 = ((1600 : ℝ) : EReal) := by
  simp [Ideal.ofBits, Ideal.ieee, ← EReal.coe_mul]
  norm_num
theorem col_bound_eq : Ideal.ofBits .f32 0x40100000#32 = ((9 / 4 : ℝ) : EReal) := by
  simp [Ideal.ofBits, Ideal.ieee, ← EReal.coe_mul]
  norm_num

theorem le_of_cmp {x y : EReal} (h : Ideal.cmp .ole x y = 1#1) : x ≤ y := by
  by_contra hn
  simp [Ideal.cmp, hn] at h

instance : Subsingleton S_.Idx := ⟨fun a b => funext fun i => i.elim0⟩

theorem of_pre (x : FVec Ideal S512x512 .f32) (a : FVec Ideal S512x2048 .f32) (b : FVec Ideal S2048x512 .f32)
    (h : fn (F := Ideal) x a b = fun _ => 1#1) :
    (∀ r : Fin 512, ∑ l : Fin 512, x (ix2 r l) * x (ix2 r l) ≤ ((1600 : ℝ) : EReal))
      ∧ ∀ k : Fin 2048, ∑ l : Fin 512, a (ix2 l k) * a (ix2 l k) ≤ ((9 / 4 : ℝ) : EReal) := by
  have h0 := congrFun h (Shape.Idx.first Facts.h_S_)
  unfold fn at h0
  obtain ⟨h1, h2⟩ := IntOp.andi_eq_one.1 h0
  refine ⟨fun r => ?_, fun k => ?_⟩
  · have := le_of_cmp (Host.reduce_andi_all _ _ _ _ _ h1 (ix1 r))
    rw [← row_bound_eq]
    revert this
    pointwise
    exact id
  · have := le_of_cmp (Host.reduce_andi_all _ _ _ _ _ h2 (ix1 k))
    rw [← col_bound_eq]
    revert this
    pointwise
    exact id

end Cert.BoundPf

end
-- ==== Proof.Whole.lean ====
/-
The devices' blocks put together: with each device holding its block of the whole `x` and of the whole weights, the kernel's
result blocks are the blocks of the two-layer map of the whole arrays, and so of either reference.
-/
module

public import proofs.«01_k».proof.Proof.IValue
public import proofs.«01_k».proof.Proof.RValue
public import proofs.«01_k».proof.Proof.Bound
public import Idealize.ShloMosaic.Lib.Layout

@[expose] public section

noncomputable section

namespace Cert.WholePf

open Cert.KernelIdeal Cert.KernelIdeal.Gen Cert.KernelIdealPf Cert.Alg Cert.RefPf
open Idealize.ShloMosaic Idealize.ShloMosaic.TcCoe Idealize.SL.Sem

abbrev SX : Shape := ⟨2, ![8192, 512]⟩
abbrev SA : Shape := ⟨2, ![512, 32768]⟩
abbrev SB : Shape := ⟨2, ![32768, 512]⟩

/-! ## Blocks at an index -/

theorem xblock_at (X : FVec Ideal SX .f32) (c : Fin 16) (r l : Fin 512) :
    Layout.block S512x512 SX 0 16 c X (by decide) (ix2 r l) = X (ix2 ⟨c.val * 512 + r.val, by omega⟩ l) := by
  rw [Layout.block_apply]
  congr 1
  funext a
  match a with
  | ⟨0, _⟩ => rfl
  | ⟨1, _⟩ => rfl
theorem ablock_at (A : FVec Ideal SA .f32) (c : Fin 16) (l : Fin 512) (k : Fin 2048) :
    Layout.block S512x2048 SA 1 16 c A (by decide) (ix2 l k) = A (ix2 l ⟨c.val * 2048 + k.val, by omega⟩) := by
  rw [Layout.block_apply]
  congr 1
  funext a
  match a with
  | ⟨0, _⟩ => rfl
  | ⟨1, _⟩ => rfl
theorem bblock_at (B : FVec Ideal SB .f32) (c : Fin 16) (k : Fin 2048) (q : Fin 512) :
    Layout.block S2048x512 SB 0 16 c B (by decide) (ix2 k q) = B (ix2 ⟨c.val * 2048 + k.val, by omega⟩ q) := by
  rw [Layout.block_apply]
  congr 1
  funext a
  match a with
  | ⟨0, _⟩ => rfl
  | ⟨1, _⟩ => rfl

/-! ## The kernel's result -/

variable (m : (ℓ : Loc nD τ sig) → Buf (Elt Ideal) ℓ) (X : FVec Ideal SX .f32) (A : FVec Ideal SA .f32) (B : FVec Ideal SB .f32)

/-- Every device holds its blocks of the three whole arrays. -/
def Agree : Prop := ∀ c : Dev nD,
  m ((c : Thread nD τ).loc main_arg0) = Layout.block ⟨2, ![512, 512]⟩ SX 0 16 c X
  ∧ m ((c : Thread nD τ).loc main_arg1) = Layout.block ⟨2, ![512, 2048]⟩ SA 1 16 c A
  ∧ m ((c : Thread nD τ).loc main_arg2) = Layout.block ⟨2, ![2048, 512]⟩ SB 0 16 c B

variable {m X A B}

theorem outV_whole (h : Agree m X A B) (c : Dev nD) (r q : Fin 512) :
    outV m c (ix2 r q) = mlpAt (fun l : Fin 512 => X (ix2 ⟨c.val * 512 + r.val, by have : c.val < 16 := c.isLt; omega⟩ l))
      (fun l (k : Fin 32768) => A (ix2 l k)) (fun k => B (ix2 k q)) := by
  rw [outV_at]
  conv_rhs => unfold mlpAt
  rw [sum_parts (p := 16) (n := 2048) rfl _ (fun d k => by omega)]
  refine Finset.sum_congr rfl fun d _ => Finset.sum_congr rfl fun k _ => ?_
  have hx (l : Fin 512) := (congrFun (h c).1 (ix2 r l)).trans (xblock_at X c r l)
  have ha (l : Fin 512) := (congrFun (h d).2.1 (ix2 l k)).trans (ablock_at A d l k)
  have hb := (congrFun (h d).2.2 (ix2 k q)).trans (bblock_at B d k q)
  simp only [hx, ha, hb]

/-- A whole array whose entries are the two-layer map's has the kernel's results for blocks. -/
theorem outV_block (h : Agree m X A B) (V : FVec Ideal SX .f32)
    (hV : ∀ (r : Fin 8192) (q : Fin 512), V (ix2 r q) = mlpAt (fun l : Fin 512 => X (ix2 r l)) (fun l (k : Fin 32768) => A (ix2 l k)) (fun k => B (ix2 k q)))
    (c : Dev nD) : outV m c = Layout.block ⟨2, ![512, 512]⟩ SX 0 16 c V := by
  funext j
  rw [eq_ix2 j]
  exact (outV_whole h c (j 0) (j 1)).trans ((hV _ _).symm.trans (xblock_at V c (j 0) (j 1)).symm)

/-- From any memory the kernel ends with its results in place and its arguments as they were. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c 3).trans (final_out m c), (h.1 c 0).trans (final_in m c 0 rfl),
    (h.1 c 1).trans (final_in m c 1 rfl), (h.1 c 2).trans (final_in m c 2 rfl)⟩) (run_main m ρ)

/-! ## Under the precondition -/

/-- The precondition of every device bounds the rows of the whole `x` and the columns of the whole first weight. -/
theorem bounds (h : Agree m X A B)
    (hp : ∀ c : Dev nD, Cert.Pre_bounded_KernelIdeal.fn (F := Ideal) (m ((c : Thread nD τ).loc main_arg0)) (m ((c : Thread nD τ).loc main_arg1))
      (m ((c : Thread nD τ).loc main_arg2)) = fun _ => 1#1) :
    (∀ r : Fin 8192, ∑ l : Fin 512, X (ix2 r l) * X (ix2 r l) ≤ ((1600 : ℝ) : EReal))
      ∧ ∀ k : Fin 32768, ∑ l : Fin 512, A (ix2 l k) * A (ix2 l k) ≤ ((9 / 4 : ℝ) : EReal) := by
  refine ⟨fun r => ?_, fun k => ?_⟩
  · have hc := (Cert.BoundPf.of_pre _ _ _ (hp ⟨r.val / 512, show _ < 16 by omega⟩)).1 ⟨r.val % 512, by omega⟩
    rw [(h _).1] at hc
    simp only [xblock_at] at hc
    simpa only [show r.val / 512 * 512 + r.val % 512 = r.val by omega] using hc
  · have hc := (Cert.BoundPf.of_pre _ _ _ (hp ⟨k.val / 2048, show _ < 16 by omega⟩)).2 ⟨k.val % 2048, by omega⟩
    rw [(h _).2.1] at hc
    simp only [ablock_at] at hc
    simpa only [show k.val / 2048 * 2048 + k.val % 2048 = k.val by omega] using hc

end Cert.WholePf

end
-- ==== Proof.lean ====
/-
The proof of the certificate's claim: the kernel's two frames from the launch, the two references' from their runs, and the
two algebraic equalities from the kernel's result array read as sums.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluReferenceIdeal
public import proofs.«01_k».proof.Proof.Gen.SiluReferenceIdeal.Run
public import proofs.«01_k».proof.Proof.Gen.Pre_bounded_KernelIdeal
public import proofs.«01_k».proof.Proof.Gen.Pre_bounded_ReferenceIdeal
public import proofs.«01_k».proof.Proof.KLaunch
public import proofs.«01_k».proof.Proof.Whole
public import Idealize.ShloMosaic.Adequacy
public import Idealize.ShloMosaic.Init

@[expose] public section

noncomputable section

namespace Cert.Proof

open Idealize.ShloMosaic Idealize.ShloMosaic.TcCoe Idealize.SL.Sem Cert.WholePf Cert.RefPf

/-! ## The references' frames -/

theorem frame_clip (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, Idealize.ShloMosaic.sem_eq_zero_of_no_sems (by decide) r.2⟩)
    (Cert.ReferenceIdeal.Value.run m ρ)

theorem frame_plain (m : (ℓ : Loc Cert.SiluReferenceIdeal.nD Cert.SiluReferenceIdeal.τ Cert.SiluReferenceIdeal.sig) → Buf (Elt Ideal) ℓ)
    (ρ : Dev Cert.SiluReferenceIdeal.nD → PrngReg) :
    θ_run Cert.SiluReferenceIdeal.defs (onTc (τ := Cert.SiluReferenceIdeal.τ) (Cert.SiluReferenceIdeal.main (F := Ideal))) ⟨m, fun _ => 0, ρ⟩
      (fun r => (∀ c : Dev Cert.SiluReferenceIdeal.nD,
        r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0)
        ∧ r.2.mem ((c.tc : Thread Cert.SiluReferenceIdeal.nD Cert.SiluReferenceIdeal.τ).loc Cert.SiluReferenceIdeal.main_arg1) = m ((c.tc : Thread Cert.SiluReferenceIdeal.nD Cert.SiluReferenceIdeal.τ).loc Cert.SiluReferenceIdeal.main_arg1)
        ∧ r.2.mem ((c.tc : Thread Cert.SiluReferenceIdeal.nD Cert.SiluReferenceIdeal.τ).loc Cert.SiluReferenceIdeal.main_arg2) = m ((c.tc : Thread Cert.SiluReferenceIdeal.nD Cert.SiluReferenceIdeal.τ).loc Cert.SiluReferenceIdeal.main_arg2))
        ∧ r.2.sem = fun _ => 0) :=
  (θ_run _ _ _).mono (fun r h => ⟨fun c => (h c).2, Idealize.ShloMosaic.sem_eq_zero_of_no_sems (by decide) r.2⟩)
    (Cert.SiluReferenceIdeal.Value.run m ρ)

/-! ## The equalities -/

theorem eq_clip : Cert.algebraic_KernelIdeal_ReferenceIdeal_pre_bounded_KernelIdeal (hKernelIdeal := Cert.KernelIdeal.Gen.facts)
    (hReferenceIdeal := Cert.ReferenceIdeal.Gen.facts) (hPre_bounded_KernelIdeal := Cert.Pre_bounded_KernelIdeal.Gen.facts) := by
  intro m g m' g' hp h
  have hb := bounds h hp
  refine ⟨_, ?_, (θ_run _ _ _).mono (fun r hr => hr 0) (Cert.ReferenceIdeal.Value.run m' g')⟩
  refine (θ_run _ _ _).mono (fun r hr c => ⟨(hr c).1.trans (outV_block h _ (fun R q => ?_) c), (hr c).2⟩) (run_value m g)
  exact clipRef_at _ _ _ R q (hb.1 R) hb.2

theorem eq_plain : Cert.algebraic_KernelIdeal_SiluReferenceIdeal (hKernelIdeal := Cert.KernelIdeal.Gen.facts)
    (hSiluReferenceIdeal := Cert.SiluReferenceIdeal.Gen.facts) := by
  intro m g m' g' _ h
  refine ⟨_, ?_, (θ_run _ _ _).mono (fun r hr => hr 0) (Cert.SiluReferenceIdeal.Value.run m' g')⟩
  refine (θ_run _ _ _).mono (fun r hr c => ⟨(hr c).1.trans (outV_block h _ (fun R q => ?_) c), (hr c).2⟩) (run_value m g)
  exact plainRef_at _ _ _ R q

theorem claim : Cert.Claim :=
  ⟨Cert.Kernel.Gen.facts, Cert.KernelIdeal.Gen.facts, Cert.ReferenceIdeal.Gen.facts, Cert.SiluReferenceIdeal.Gen.facts,
    Cert.Pre_bounded_KernelIdeal.Gen.facts, Cert.Pre_bounded_ReferenceIdeal.Gen.facts,
    fun m g _ => Cert.KernelPf.quiet m g, fun m g _ => Cert.KernelIdealPf.quiet m g, fun m g _ => Cert.KernelIdealPf.quiet m g,
    fun m g _ => frame_clip m g, fun m g _ => frame_clip m g, fun m g _ => frame_plain m g, trivial, eq_clip, eq_plain⟩

end Cert.Proof

end
